-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S1024x200 : Shape := ⟨2, ![1024, 200]⟩
abbrev S100000x100 : Shape := ⟨2, ![100000, 100]⟩
abbrev S512x100 : Shape := ⟨2, ![512, 100]⟩
abbrev S512x128 : Shape := ⟨2, ![512, 128]⟩
abbrev S512 : Shape := ⟨1, ![512]⟩
abbrev S20x256 : Shape := ⟨2, ![20, 256]⟩
abbrev S20 : Shape := ⟨1, ![20]⟩
abbrev S_ : Shape := ⟨0, ![]⟩

class Facts : Prop where
  bcast_S_S1024x200 : S_.BroadcastsInDim S1024x200 (![] : Fin 0 → Fin S1024x200.rank)
  reducesTo_S1024x200_S_d0_1 : S1024x200.ReducesTo [0, 1] S_
  h_S_ : 0 < S_.numel

variable [Facts]

def fn {F : FTy → Type} [FloatOps F] (main_arg0 : IVec S1024x200 32) (main_arg1 : FVec F S100000x100 .f32) (main_arg2 : FVec F S512x100 .f32) (main_arg3 : FVec F S512x128 .f32) (main_arg4 : FVec F S512 .f32) (main_arg5 : FVec F S512 .f32) (main_arg6 : FVec F S512x100 .f32) (main_arg7 : FVec F S512x128 .f32) (main_arg8 : FVec F S512 .f32) (main_arg9 : FVec F S512 .f32) (main_arg10 : FVec F S20x256 .f32) (main_arg11 : FVec F S20 .f32) : IVec S_ 1 :=
  let main_c : IVec S_ 32 := constantI S_ 32 0#32
  let main_v0 : IVec S1024x200 32 := broadcastInDim S1024x200 ![] bcast_S_S1024x200 main_c
  let main_v1 : IVec S1024x200 1 := cmpi .sge main_arg0 main_v0
  let main_c_0 : IVec S_ 32 := constantI S_ 32 100000#32
  let main_v2 : IVec S1024x200 32 := broadcastInDim S1024x200 ![] bcast_S_S1024x200 main_c_0
  let main_v3 : IVec S1024x200 1 := cmpi .slt main_arg0 main_v2
  let main_v4 : IVec S1024x200 1 := andi main_v1 main_v3
  let main_c_1 : IVec S_ 1 := constantI S_ 1 1#1
  let main_v5 : IVec S_ 1 := (fun x v => Host.reduce IntOp.andi x v reducesTo_S1024x200_S_d0_1 h_S_) main_v4 main_c_1
  main_v5
-- ==== Kernel.lean ====
abbrev S1024x200 : Shape := ⟨2, ![1024, 200]⟩
abbrev S100000x100 : Shape := ⟨2, ![100000, 100]⟩
abbrev S512x100 : Shape := ⟨2, ![512, 100]⟩
abbrev S512x128 : Shape := ⟨2, ![512, 128]⟩
abbrev S512 : Shape := ⟨1, ![512]⟩
abbrev S20x256 : Shape := ⟨2, ![20, 256]⟩
abbrev S20 : Shape := ⟨1, ![20]⟩
abbrev S100000x128 : Shape := ⟨2, ![100000, 128]⟩
abbrev S4000x100 : Shape := ⟨2, ![4000, 100]⟩
abbrev S4000x128 : Shape := ⟨2, ![4000, 128]⟩
abbrev S4000x28 : Shape := ⟨2, ![4000, 28]⟩
abbrev S200x1024 : Shape := ⟨2, ![200, 1024]⟩
abbrev S204800 : Shape := ⟨1, ![204800]⟩
abbrev S204800x128 : Shape := ⟨2, ![204800, 128]⟩
abbrev S6400 : Shape := ⟨1, ![6400]⟩
abbrev S400x128 : Shape := ⟨2, ![400, 128]⟩
abbrev S_ : Shape := ⟨0, ![]⟩
abbrev S400 : Shape := ⟨1, ![400]⟩
abbrev S200x1024x128 : Shape := ⟨3, ![200, 1024, 128]⟩
abbrev S1x128 : Shape := ⟨2, ![1, 128]⟩
abbrev S1x512 : Shape := ⟨2, ![1, 512]⟩
abbrev S100x512 : Shape := ⟨2, ![100, 512]⟩
abbrev S128x512 : Shape := ⟨2, ![128, 512]⟩
abbrev S1 : Shape := ⟨1, ![1]⟩
abbrev S256x512 : Shape := ⟨2, ![256, 512]⟩
abbrev S20x128 : Shape := ⟨2, ![20, 128]⟩
abbrev S128x20 : Shape := ⟨2, ![128, 20]⟩
abbrev S1x20 : Shape := ⟨2, ![1, 20]⟩
abbrev S200x1024x20 : Shape := ⟨3, ![200, 1024, 20]⟩
abbrev S4x1024x128 : Shape := ⟨3, ![4, 1024, 128]⟩
abbrev S4x1024x20 : Shape := ⟨3, ![4, 1024, 20]⟩
abbrev S1024x128 : Shape := ⟨2, ![1024, 128]⟩
abbrev S1x1024x128 : Shape := ⟨3, ![1, 1024, 128]⟩
abbrev S1024x256 : Shape := ⟨2, ![1024, 256]⟩
abbrev S1024x512 : Shape := ⟨2, ![1024, 512]⟩
abbrev S1024x20 : Shape := ⟨2, ![1024, 20]⟩
abbrev S1x1024x20 : Shape := ⟨3, ![1, 1024, 20]⟩
abbrev S1024x200x20 : Shape := ⟨3, ![1024, 200, 20]⟩

abbrev nBuf : Table → Nat
  | .hbm => 78
  | .local .tc .vmem => 21
  | .local .scVector .vmem => 3
  | _ => 0

abbrev bufTy : (tb : Table) → Fin (nBuf tb) → BufTy
  | .hbm, ⟨0, _⟩ => ⟨S1024x200, .i32⟩
  | .hbm, ⟨1, _⟩ => ⟨S100000x100, .f32⟩
  | .hbm, ⟨2, _⟩ => ⟨S512x100, .f32⟩
  | .hbm, ⟨3, _⟩ => ⟨S512x128, .f32⟩
  | .hbm, ⟨4, _⟩ => ⟨S512, .f32⟩
  | .hbm, ⟨5, _⟩ => ⟨S512, .f32⟩
  | .hbm, ⟨6, _⟩ => ⟨S512x100, .f32⟩
  | .hbm, ⟨7, _⟩ => ⟨S512x128, .f32⟩
  | .hbm, ⟨8, _⟩ => ⟨S512, .f32⟩
  | .hbm, ⟨9, _⟩ => ⟨S512, .f32⟩
  | .hbm, ⟨10, _⟩ => ⟨S20x256, .f32⟩
  | .hbm, ⟨11, _⟩ => ⟨S20, .f32⟩
  | .hbm, ⟨12, _⟩ => ⟨S100000x128, .f32⟩
  | .hbm, ⟨13, _⟩ => ⟨S200x1024, .i32⟩
  | .hbm, ⟨14, _⟩ => ⟨S204800, .i32⟩
  | .hbm, ⟨15, _⟩ => ⟨S204800x128, .f32⟩
  | .hbm, ⟨16, _⟩ => ⟨S200x1024x128, .f32⟩
  | .hbm, ⟨17, _⟩ => ⟨S_, .f32⟩
  | .hbm, ⟨18, _⟩ => ⟨S1x128, .f32⟩
  | .hbm, ⟨19, _⟩ => ⟨S_, .f32⟩
  | .hbm, ⟨20, _⟩ => ⟨S1x128, .f32⟩
  | .hbm, ⟨21, _⟩ => ⟨S_, .f32⟩
  | .hbm, ⟨22, _⟩ => ⟨S1x128, .f32⟩
  | .hbm, ⟨23, _⟩ => ⟨S_, .f32⟩
  | .hbm, ⟨24, _⟩ => ⟨S1x128, .f32⟩
  | .hbm, ⟨25, _⟩ => ⟨S1x128, .f32⟩
  | .hbm, ⟨26, _⟩ => ⟨S1x128, .f32⟩
  | .hbm, ⟨27, _⟩ => ⟨S1x128, .f32⟩
  | .hbm, ⟨28, _⟩ => ⟨S1x512, .f32⟩
  | .hbm, ⟨29, _⟩ => ⟨S100x512, .f32⟩
  | .hbm, ⟨30, _⟩ => ⟨S_, .i32⟩
  | .hbm, ⟨31, _⟩ => ⟨S_, .f32⟩
  | .hbm, ⟨32, _⟩ => ⟨S128x512, .f32⟩
  | .hbm, ⟨33, _⟩ => ⟨S512, .f32⟩
  | .hbm, ⟨34, _⟩ => ⟨S_, .i32⟩
  | .hbm, ⟨35, _⟩ => ⟨S1, .i32⟩
  | .hbm, ⟨36, _⟩ => ⟨S128x512, .f32⟩
  | .hbm, ⟨37, _⟩ => ⟨S128x512, .f32⟩
  | .hbm, ⟨38, _⟩ => ⟨S_, .f32⟩
  | .hbm, ⟨39, _⟩ => ⟨S128x512, .f32⟩
  | .hbm, ⟨40, _⟩ => ⟨S128x512, .f32⟩
  | .hbm, ⟨41, _⟩ => ⟨S256x512, .f32⟩
  | .hbm, ⟨42, _⟩ => ⟨S256x512, .f32⟩
  | .hbm, ⟨43, _⟩ => ⟨S256x512, .f32⟩
  | .hbm, ⟨44, _⟩ => ⟨S256x512, .bf16⟩
  | .hbm, ⟨45, _⟩ => ⟨S100x512, .f32⟩
  | .hbm, ⟨46, _⟩ => ⟨S_, .i32⟩
  | .hbm, ⟨47, _⟩ => ⟨S_, .f32⟩
  | .hbm, ⟨48, _⟩ => ⟨S128x512, .f32⟩
  | .hbm, ⟨49, _⟩ => ⟨S512, .f32⟩
  | .hbm, ⟨50, _⟩ => ⟨S_, .i32⟩
  | .hbm, ⟨51, _⟩ => ⟨S1, .i32⟩
  | .hbm, ⟨52, _⟩ => ⟨S128x512, .f32⟩
  | .hbm, ⟨53, _⟩ => ⟨S128x512, .f32⟩
  | .hbm, ⟨54, _⟩ => ⟨S_, .f32⟩
  | .hbm, ⟨55, _⟩ => ⟨S128x512, .f32⟩
  | .hbm, ⟨56, _⟩ => ⟨S128x512, .f32⟩
  | .hbm, ⟨57, _⟩ => ⟨S256x512, .f32⟩
  | .hbm, ⟨58, _⟩ => ⟨S256x512, .f32⟩
  | .hbm, ⟨59, _⟩ => ⟨S256x512, .f32⟩
  | .hbm, ⟨60, _⟩ => ⟨S256x512, .bf16⟩
  | .hbm, ⟨61, _⟩ => ⟨S20x128, .f32⟩
  | .hbm, ⟨62, _⟩ => ⟨S128x20, .f32⟩
  | .hbm, ⟨63, _⟩ => ⟨S_, .f32⟩
  | .hbm, ⟨64, _⟩ => ⟨S128x20, .f32⟩
  | .hbm, ⟨65, _⟩ => ⟨S128x20, .f32⟩
  | .hbm, ⟨66, _⟩ => ⟨S128x20, .bf16⟩
  | .hbm, ⟨67, _⟩ => ⟨S20x128, .f32⟩
  | .hbm, ⟨68, _⟩ => ⟨S128x20, .f32⟩
  | .hbm, ⟨69, _⟩ => ⟨S_, .f32⟩
  | .hbm, ⟨70, _⟩ => ⟨S128x20, .f32⟩
  | .hbm, ⟨71, _⟩ => ⟨S128x20, .f32⟩
  | .hbm, ⟨72, _⟩ => ⟨S128x20, .bf16⟩
  | .hbm, ⟨73, _⟩ => ⟨S1x20, .f32⟩
  | .hbm, ⟨74, _⟩ => ⟨S200x1024x20, .f32⟩
  | .hbm, ⟨75, _⟩ => ⟨S200x1024x20, .f32⟩
  | .hbm, ⟨76, _⟩ => ⟨S200x1024x20, .f32⟩
  | .hbm, ⟨77, _⟩ => ⟨S1024x200x20, .f32⟩
  | .local .tc .vmem, ⟨0, _⟩ => ⟨S4000x100, .f32⟩
  | .local .tc .vmem, ⟨1, _⟩ => ⟨S4000x100, .f32⟩
  | .local .tc .vmem, ⟨2, _⟩ => ⟨S4000x128, .f32⟩
  | .local .tc .vmem, ⟨3, _⟩ => ⟨S4000x128, .f32⟩
  | .local .tc .vmem, ⟨4, _⟩ => ⟨S4x1024x128, .f32⟩
  | .local .tc .vmem, ⟨5, _⟩ => ⟨S4x1024x128, .f32⟩
  | .local .tc .vmem, ⟨6, _⟩ => ⟨S4x1024x128, .f32⟩
  | .local .tc .vmem, ⟨7, _⟩ => ⟨S4x1024x128, .f32⟩
  | .local .tc .vmem, ⟨8, _⟩ => ⟨S256x512, .bf16⟩
  | .local .tc .vmem, ⟨9, _⟩ => ⟨S256x512, .bf16⟩
  | .local .tc .vmem, ⟨10, _⟩ => ⟨S128x20, .bf16⟩
  | .local .tc .vmem, ⟨11, _⟩ => ⟨S128x20, .bf16⟩
  | .local .tc .vmem, ⟨12, _⟩ => ⟨S1x20, .f32⟩
  | .local .tc .vmem, ⟨13, _⟩ => ⟨S4x1024x20, .f32⟩
  | .local .tc .vmem, ⟨14, _⟩ => ⟨S4x1024x20, .f32⟩
  | .local .tc .vmem, ⟨15, _⟩ => ⟨S4x1024x20, .f32⟩
  | .local .tc .vmem, ⟨16, _⟩ => ⟨S4x1024x20, .f32⟩
  | .local .tc .vmem, ⟨17, _⟩ => ⟨S1024x128, .bf16⟩
  | .local .tc .vmem, ⟨18, _⟩ => ⟨S1024x128, .f32⟩
  | .local .tc .vmem, ⟨19, _⟩ => ⟨S1024x128, .bf16⟩
  | .local .tc .vmem, ⟨20, _⟩ => ⟨S1024x128, .f32⟩
  | .local .scVector .vmem, ⟨0, _⟩ => ⟨S6400, .i32⟩
  | .local .scVector .vmem, ⟨1, _⟩ => ⟨S400x128, .f32⟩
  | .local .scVector .vmem, ⟨2, _⟩ => ⟨S400x128, .f32⟩
  | _, _ => ⟨S1024x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 36 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTables nBuf rfl bufTy 4 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c : Ref sig .tc := ⟨.hbm, 30, rfl⟩
abbrev main_call0_v0 : Ref sig .tc := ⟨.hbm, 31, rfl⟩
abbrev main_v14 : Ref sig .tc := ⟨.hbm, 32, rfl⟩
abbrev main_v15 : Ref sig .tc := ⟨.hbm, 33, rfl⟩
abbrev main_c_3 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_5 : Ref sig .tc := ⟨.hbm, 46, rfl⟩
abbrev main_call1_v0 : Ref sig .tc := ⟨.hbm, 47, rfl⟩
abbrev main_v26 : Ref sig .tc := ⟨.hbm, 48, rfl⟩
abbrev main_v27 : Ref sig .tc := ⟨.hbm, 49, rfl⟩
abbrev main_c_6 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_7 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_8 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_9 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48_0 : Ref sig .tc := ⟨.hbm, 74, rfl⟩
abbrev main_v48_1 : Ref sig .tc := ⟨.hbm, 75, rfl⟩
abbrev main_v49 : Ref sig .tc := ⟨.hbm, 76, rfl⟩
abbrev main_v50 : Ref sig .tc := ⟨.hbm, 77, rfl⟩
abbrev main_v0_scv : Ref sig .scVector := ⟨.hbm, 12, rfl⟩
abbrev main_v2_scv : Ref sig .scVector := ⟨.hbm, 14, rfl⟩
abbrev main_v3_scv : Ref sig .scVector := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc2_stg0_0 : Ref sig .tc := ⟨.vmem, 4, rfl⟩
abbrev cc2_stg0_1 : Ref sig .tc := ⟨.vmem, 5, rfl⟩
abbrev cc2_stg1_0 : Ref sig .tc := ⟨.vmem, 6, rfl⟩
abbrev cc2_stg1_1 : Ref sig .tc := ⟨.vmem, 7, rfl⟩
abbrev cc2_stg2_0 : Ref sig .tc := ⟨.vmem, 8, rfl⟩
abbrev cc2_stg3_0 : Ref sig .tc := ⟨.vmem, 9, rfl⟩
abbrev cc2_stg4_0 : Ref sig .tc := ⟨.vmem, 10, rfl⟩
abbrev cc2_stg5_0 : Ref sig .tc := ⟨.vmem, 11, rfl⟩
abbrev cc2_stg6_0 : Ref sig .tc := ⟨.vmem, 12, rfl⟩
abbrev cc2_stg7_0 : Ref sig .tc := ⟨.vmem, 13, rfl⟩
abbrev cc2_stg7_1 : Ref sig .tc := ⟨.vmem, 14, rfl⟩
abbrev cc2_stg8_0 : Ref sig .tc := ⟨.vmem, 15, rfl⟩
abbrev cc2_stg8_1 : Ref sig .tc := ⟨.vmem, 16, rfl⟩
abbrev cc2_scratch0 : Ref sig .tc := ⟨.vmem, 17, rfl⟩
abbrev cc2_scratch1 : Ref sig .tc := ⟨.vmem, 18, rfl⟩
abbrev cc2_scratch2 : Ref sig .tc := ⟨.vmem, 19, rfl⟩
abbrev cc2_scratch3 : Ref sig .tc := ⟨.vmem, 20, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem0_1 : DmaSem sig := 1
abbrev cc0_sem1_0 : DmaSem sig := 2
abbrev cc0_sem1_1 : DmaSem sig := 3
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem7_0 : DmaSem sig := 32
abbrev cc2_sem7_1 : DmaSem sig := 33
abbrev cc2_sem8_0 : DmaSem sig := 34
abbrev cc2_sem8_1 : DmaSem sig := 35
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  ![v2.toNat]
def k1_off2 (i : grid1.Coords) (c0_i32_7 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let v9 : BitVec 32 := Scalar.addi v2 c0_i32_7
  let c0_i32_96_r1 : BitVec 32 := 0#32
  ![v9.toNat, 0]
abbrev grid2 : Pipeline.Grid := ⟨1, ![50], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c49_i32 : BitVec 32 := 49#32
  let v0 : BitVec 32 := Scalar.subi c49_i32 arg0
  let c0_i32 : BitVec 32 := 0#32
  let c0_i32_0 : BitVec 32 := 0#32
  let c0_i32_1 : BitVec 32 := 0#32
  ![v0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_8 (i : grid2.Coords) : Fin 3 → Nat :=
  let arg0 : BitVec 32 := BitVec.ofNat 32 (i 0).val
  let c49_i32 : BitVec 32 := 49#32
  let v0 : BitVec 32 := Scalar.subi c49_i32 arg0
  let c0_i32 : BitVec 32 := 0#32
  let c0_i32_0 : BitVec 32 := 0#32
  let c0_i32_1 : BitVec 32 := 0#32
  ![v0.toNat, c0_i32.toNat, c0_i32_0.toNat]

abbrev stage2_0 : Fin 2 → Memref sig .tc .vmem S4x1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4x1024x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x512 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x512 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x20 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x20 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x20 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S4x1024x20 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S4x1024x20 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x200 : Shape := ⟨2, ![1024, 200]⟩
abbrev S100000x100 : Shape := ⟨2, ![100000, 100]⟩
abbrev S512x100 : Shape := ⟨2, ![512, 100]⟩
abbrev S512x128 : Shape := ⟨2, ![512, 128]⟩
abbrev S512 : Shape := ⟨1, ![512]⟩
abbrev S20x256 : Shape := ⟨2, ![20, 256]⟩
abbrev S20 : Shape := ⟨1, ![20]⟩
abbrev S_ : Shape := ⟨0, ![]⟩
abbrev S1024x200x1 : Shape := ⟨3, ![1024, 200, 1]⟩
abbrev S1 : Shape := ⟨1, ![1]⟩
abbrev S1x1x1 : Shape := ⟨3, ![1, 1, 1]⟩
abbrev S1024x200x100 : Shape := ⟨3, ![1024, 200, 100]⟩
abbrev S200x1024x100 : Shape := ⟨3, ![200, 1024, 100]⟩
abbrev S1024x128 : Shape := ⟨2, ![1024, 128]⟩
abbrev S200x1024x128 : Shape := ⟨3, ![200, 1024, 128]⟩
abbrev S1x1024x100 : Shape := ⟨3, ![1, 1024, 100]⟩
abbrev S1024x100 : Shape := ⟨2, ![1024, 100]⟩
abbrev S100x512 : Shape := ⟨2, ![100, 512]⟩
abbrev S1024x512 : Shape := ⟨2, ![1024, 512]⟩
abbrev S1x512 : Shape := ⟨2, ![1, 512]⟩
abbrev S128x512 : Shape := ⟨2, ![128, 512]⟩
abbrev S1x1024x128 : Shape := ⟨3, ![1, 1024, 128]⟩
abbrev S1024x200x128 : Shape := ⟨3, ![1024, 200, 128]⟩
abbrev S1024x200x256 : Shape := ⟨3, ![1024, 200, 256]⟩
abbrev S256x20 : Shape := ⟨2, ![256, 20]⟩
abbrev S1024x200x20 : Shape := ⟨3, ![1024, 200, 20]⟩
abbrev S1x1x20 : Shape := ⟨3, ![1, 1, 20]⟩

abbrev nBuf : Space → Nat
  | .hbm => 180
  | .vmem => 0
  | .smem => 0
  | _ => 0

abbrev hbmTy0_0 (i : Nat) : BufTy := match i % 128 with
  | 0 => ⟨S1024x200, .i32⟩
  | 1 => ⟨S100000x100, .f32⟩
  | 2 => ⟨S512x100, .f32⟩
  | 3 => ⟨S512x128, .f32⟩
  | 4 => ⟨S512, .f32⟩
  | 5 => ⟨S512, .f32⟩
  | 6 => ⟨S512x100, .f32⟩
  | 7 => ⟨S512x128, .f32⟩
  | 8 => ⟨S512, .f32⟩
  | 9 => ⟨S512, .f32⟩
  | 10 => ⟨S20x256, .f32⟩
  | 11 => ⟨S20, .f32⟩
  | 12 => ⟨S_, .i32⟩
  | 13 => ⟨S1024x200, .i32⟩
  | 14 => ⟨S1024x200, .i1⟩
  | 15 => ⟨S_, .i32⟩
  | 16 => ⟨S1024x200, .i32⟩
  | 17 => ⟨S1024x200, .i32⟩
  | 18 => ⟨S1024x200, .i32⟩
  | 19 => ⟨S1024x200x1, .i32⟩
  | 20 => ⟨S1, .i32⟩
  | 21 => ⟨S_, .i32⟩
  | 22 => ⟨S1024x200x1, .i32⟩
  | 23 => ⟨S1024x200x1, .i1⟩
  | 24 => ⟨S1x1x1, .i32⟩
  | 25 => ⟨S1024x200x1, .i32⟩
  | 26 => ⟨S1024x200x1, .i1⟩
  | 27 => ⟨S1024x200x1, .i1⟩
  | 28 => ⟨S_, .i1⟩
  | 29 => ⟨S1024x200, .i1⟩
  | 30 => ⟨S1024x200x100, .f32⟩
  | 31 => ⟨S1024x200x100, .i1⟩
  | 32 => ⟨S_, .f32⟩
  | 33 => ⟨S1024x200x100, .f32⟩
  | 34 => ⟨S1024x200x100, .f32⟩
  | 35 => ⟨S200x1024x100, .f32⟩
  | 36 => ⟨S_, .f32⟩
  | 37 => ⟨S1024x128, .f32⟩
  | 38 => ⟨S200x1024x100, .f32⟩
  | 39 => ⟨S_, .f32⟩
  | 40 => ⟨S200x1024x128, .f32⟩
  | 41 => ⟨S_, .f32⟩
  | 42 => ⟨S200x1024x128, .f32⟩
  | 43 => ⟨S_, .i32⟩
  | 44 => ⟨S200x1024x100, .f32⟩
  | 45 => ⟨S200x1024x100, .f32⟩
  | 46 => ⟨S512x100, .f32⟩
  | 47 => ⟨S512, .f32⟩
  | 48 => ⟨S512x128, .f32⟩
  | 49 => ⟨S512, .f32⟩
  | 50 => ⟨S512x100, .f32⟩
  | 51 => ⟨S512, .f32⟩
  | 52 => ⟨S512x128, .f32⟩
  | 53 => ⟨S512, .f32⟩
  | 54 => ⟨S_, .i32⟩
  | 55 => ⟨S1024x128, .f32⟩
  | 56 => ⟨S1024x128, .f32⟩
  | 57 => ⟨S1024x128, .f32⟩
  | 58 => ⟨S1024x128, .f32⟩
  | 59 => ⟨S200x1024x128, .f32⟩
  | 60 => ⟨S200x1024x128, .f32⟩
  | 61 => ⟨S_, .i32⟩
  | 62 => ⟨S_, .i1⟩
  | 63 => ⟨S_, .i32⟩
  | 64 => ⟨S_, .i32⟩
  | 65 => ⟨S1x1024x100, .f32⟩
  | 66 => ⟨S1024x100, .f32⟩
  | 67 => ⟨S_, .i32⟩
  | 68 => ⟨S_, .i32⟩
  | 69 => ⟨S1x1024x100, .f32⟩
  | 70 => ⟨S1024x100, .f32⟩
  | 71 => ⟨S100x512, .f32⟩
  | 72 => ⟨S1024x512, .f32⟩
  | 73 => ⟨S1x512, .f32⟩
  | 74 => ⟨S1024x512, .f32⟩
  | 75 => ⟨S1024x512, .f32⟩
  | 76 => ⟨S128x512, .f32⟩
  | 77 => ⟨S1024x512, .f32⟩
  | 78 => ⟨S1024x512, .f32⟩
  | 79 => ⟨S1x512, .f32⟩
  | 80 => ⟨S1024x512, .f32⟩
  | 81 => ⟨S1024x512, .f32⟩
  | 82 => ⟨S1024x128, .f32⟩
  | 83 => ⟨S1024x128, .f32⟩
  | 84 => ⟨S1024x128, .f32⟩
  | 85 => ⟨S1024x128, .f32⟩
  | 86 => ⟨S1024x128, .f32⟩
  | 87 => ⟨S1024x128, .f32⟩
  | 88 => ⟨S_, .f32⟩
  | 89 => ⟨S1024x128, .f32⟩
  | 90 => ⟨S1024x128, .f32⟩
  | 91 => ⟨S_, .f32⟩
  | 92 => ⟨S1024x128, .f32⟩
  | 93 => ⟨S1024x128, .f32⟩
  | 94 => ⟨S1024x128, .f32⟩
  | 95 => ⟨S1024x128, .f32⟩
  | 96 => ⟨S_, .f32⟩
  | 97 => ⟨S1024x128, .f32⟩
  | 98 => ⟨S1024x128, .f32⟩
  | 99 => ⟨S_, .f32⟩
  | 100 => ⟨S1024x128, .f32⟩
  | 101 => ⟨S1024x128, .f32⟩
  | 102 => ⟨S1024x128, .f32⟩
  | 103 => ⟨S1024x128, .f32⟩
  | 104 => ⟨S1024x128, .f32⟩
  | 105 => ⟨S_, .f32⟩
  | 106 => ⟨S1024x128, .f32⟩
  | 107 => ⟨S1024x128, .f32⟩
  | 108 => ⟨S_, .f32⟩
  | 109 => ⟨S1024x128, .f32⟩
  | 110 => ⟨S1024x128, .f32⟩
  | 111 => ⟨S1024x128, .f32⟩
  | 112 => ⟨S1024x128, .f32⟩
  | 113 => ⟨S1024x128, .f32⟩
  | 114 => ⟨S1024x128, .f32⟩
  | 115 => ⟨S1024x128, .f32⟩
  | 116 => ⟨S100x512, .f32⟩
  | 117 => ⟨S1024x512, .f32⟩
  | 118 => ⟨S1x512, .f32⟩
  | 119 => ⟨S1024x512, .f32⟩
  | 120 => ⟨S1024x512, .f32⟩
  | 121 => ⟨S128x512, .f32⟩
  | 122 => ⟨S1024x512, .f32⟩
  | 123 => ⟨S1024x512, .f32⟩
  | 124 => ⟨S1x512, .f32⟩
  | 125 => ⟨S1024x512, .f32⟩
  | 126 => ⟨S1024x512, .f32⟩
  | 127 => ⟨S1024x128, .f32⟩
  | _ => ⟨S1024x200, .i32⟩

abbrev hbmTy0_1 (i : Nat) : BufTy := match i % 128 with
  | 0 => ⟨S1024x128, .f32⟩
  | 1 => ⟨S1024x128, .f32⟩
  | 2 => ⟨S1024x128, .f32⟩
  | 3 => ⟨S1024x128, .f32⟩
  | 4 => ⟨S1024x128, .f32⟩
  | 5 => ⟨S_, .f32⟩
  | 6 => ⟨S1024x128, .f32⟩
  | 7 => ⟨S1024x128, .f32⟩
  | 8 => ⟨S_, .f32⟩
  | 9 => ⟨S1024x128, .f32⟩
  | 10 => ⟨S1024x128, .f32⟩
  | 11 => ⟨S1024x128, .f32⟩
  | 12 => ⟨S1024x128, .f32⟩
  | 13 => ⟨S_, .f32⟩
  | 14 => ⟨S1024x128, .f32⟩
  | 15 => ⟨S1024x128, .f32⟩
  | 16 => ⟨S_, .f32⟩
  | 17 => ⟨S1024x128, .f32⟩
  | 18 => ⟨S1024x128, .f32⟩
  | 19 => ⟨S1024x128, .f32⟩
  | 20 => ⟨S1024x128, .f32⟩
  | 21 => ⟨S1024x128, .f32⟩
  | 22 => ⟨S_, .f32⟩
  | 23 => ⟨S1024x128, .f32⟩
  | 24 => ⟨S1024x128, .f32⟩
  | 25 => ⟨S_, .f32⟩
  | 26 => ⟨S1024x128, .f32⟩
  | 27 => ⟨S1024x128, .f32⟩
  | 28 => ⟨S1024x128, .f32⟩
  | 29 => ⟨S1024x128, .f32⟩
  | 30 => ⟨S1024x128, .f32⟩
  | 31 => ⟨S1024x128, .f32⟩
  | 32 => ⟨S1024x128, .f32⟩
  | 33 => ⟨S1x1024x128, .f32⟩
  | 34 => ⟨S_, .i32⟩
  | 35 => ⟨S_, .i32⟩
  | 36 => ⟨S200x1024x128, .f32⟩
  | 37 => ⟨S1x1024x128, .f32⟩
  | 38 => ⟨S_, .i32⟩
  | 39 => ⟨S_, .i32⟩
  | 40 => ⟨S200x1024x128, .f32⟩
  | 41 => ⟨S_, .i32⟩
  | 42 => ⟨S_, .i32⟩
  | 43 => ⟨S1024x200x128, .f32⟩
  | 44 => ⟨S200x1024x128, .f32⟩
  | 45 => ⟨S1024x200x128, .f32⟩
  | 46 => ⟨S1024x200x256, .f32⟩
  | 47 => ⟨S256x20, .f32⟩
  | 48 => ⟨S1024x200x20, .f32⟩
  | 49 => ⟨S1x1x20, .f32⟩
  | 50 => ⟨S1024x200x20, .f32⟩
  | 51 => ⟨S1024x200x20, .f32⟩
  | _ => ⟨S1024x200, .i32⟩

abbrev hbmTy (i : Nat) : BufTy := match i / 128 with
  | 0 => hbmTy0_0 i
  | 1 => hbmTy0_1 i
  | _ => ⟨S1024x200, .i32⟩

abbrev bufTy : (tb : Table) → Fin (tcTables nBuf tb) → BufTy
  | .hbm, ⟨i, _⟩ => hbmTy i
  | _, _ => ⟨S1024x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v0 : Ref sig .tc := ⟨.hbm, 34, rfl⟩
abbrev main_v1 : Ref sig .tc := ⟨.hbm, 35, rfl⟩
abbrev main_cst : Ref sig .tc := ⟨.hbm, 36, rfl⟩
abbrev main_v2 : Ref sig .tc := ⟨.hbm, 37, rfl⟩
abbrev main_v3 : Ref sig .tc := ⟨.hbm, 38, rfl⟩
abbrev main_cst_0 : Ref sig .tc := ⟨.hbm, 39, rfl⟩
abbrev main_v4 : Ref sig .tc := ⟨.hbm, 40, rfl⟩
abbrev main_cst_1 : Ref sig .tc := ⟨.hbm, 41, rfl⟩
abbrev main_v5 : Ref sig .tc := ⟨.hbm, 42, rfl⟩
abbrev main_c : Ref sig .tc := ⟨.hbm, 43, rfl⟩
abbrev main_v6_0 : Ref sig .tc := ⟨.hbm, 44, rfl⟩
abbrev main_v6_1 : Ref sig .tc := ⟨.hbm, 45, rfl⟩
abbrev main_v6_2 : Ref sig .tc := ⟨.hbm, 46, rfl⟩
abbrev main_v6_3 : Ref sig .tc := ⟨.hbm, 47, rfl⟩
abbrev main_v6_4 : Ref sig .tc := ⟨.hbm, 48, rfl⟩
abbrev main_v6_5 : Ref sig .tc := ⟨.hbm, 49, rfl⟩
abbrev main_v6_6 : Ref sig .tc := ⟨.hbm, 50, rfl⟩
abbrev main_v6_7 : Ref sig .tc := ⟨.hbm, 51, rfl⟩
abbrev main_v6_8 : Ref sig .tc := ⟨.hbm, 52, rfl⟩
abbrev main_v6_9 : Ref sig .tc := ⟨.hbm, 53, rfl⟩
abbrev main_v6_10 : Ref sig .tc := ⟨.hbm, 54, rfl⟩
abbrev main_v6_11 : Ref sig .tc := ⟨.hbm, 55, rfl⟩
abbrev main_v6_12 : Ref sig .tc := ⟨.hbm, 56, rfl⟩
abbrev main_v6_13 : Ref sig .tc := ⟨.hbm, 57, rfl⟩
abbrev main_v6_14 : Ref sig .tc := ⟨.hbm, 58, rfl⟩
abbrev main_v6_15 : Ref sig .tc := ⟨.hbm, 59, rfl⟩
abbrev main_v6_16 : Ref sig .tc := ⟨.hbm, 60, rfl⟩
abbrev main_while0c_c_18 : Ref sig .tc := ⟨.hbm, 61, rfl⟩
abbrev main_while0c_v16 : Ref sig .tc := ⟨.hbm, 62, rfl⟩
abbrev main_while0b_call1_c : Ref sig .tc := ⟨.hbm, 63, rfl⟩
abbrev main_while0b_call1_c_0 : Ref sig .tc := ⟨.hbm, 64, rfl⟩
abbrev main_while0b_call1_v0 : Ref sig .tc := ⟨.hbm, 65, rfl⟩
abbrev main_while0b_v16 : Ref sig .tc := ⟨.hbm, 66, rfl⟩
abbrev main_while0b_call2_c : Ref sig .tc := ⟨.hbm, 67, rfl⟩
abbrev main_while0b_call2_c_0 : Ref sig .tc := ⟨.hbm, 68, rfl⟩
abbrev main_while0b_call2_v0 : Ref sig .tc := ⟨.hbm, 69, rfl⟩
abbrev main_while0b_v17 : Ref sig .tc := ⟨.hbm, 70, rfl⟩
abbrev main_while0b_v18 : Ref sig .tc := ⟨.hbm, 71, rfl⟩
abbrev main_while0b_v19 : Ref sig .tc := ⟨.hbm, 72, rfl⟩
abbrev main_while0b_v20 : Ref sig .tc := ⟨.hbm, 73, rfl⟩
abbrev main_while0b_v21 : Ref sig .tc := ⟨.hbm, 74, rfl⟩
abbrev main_while0b_v22 : Ref sig .tc := ⟨.hbm, 75, rfl⟩
abbrev main_while0b_v23 : Ref sig .tc := ⟨.hbm, 76, rfl⟩
abbrev main_while0b_v24 : Ref sig .tc := ⟨.hbm, 77, rfl⟩
abbrev main_while0b_v25 : Ref sig .tc := ⟨.hbm, 78, rfl⟩
abbrev main_while0b_v26 : Ref sig .tc := ⟨.hbm, 79, rfl⟩
abbrev main_while0b_v27 : Ref sig .tc := ⟨.hbm, 80, rfl⟩
abbrev main_while0b_v28 : Ref sig .tc := ⟨.hbm, 81, rfl⟩
abbrev main_while0b_v29 : Ref sig .tc := ⟨.hbm, 82, rfl⟩
abbrev main_while0b_v30 : Ref sig .tc := ⟨.hbm, 83, rfl⟩
abbrev main_while0b_v31 : Ref sig .tc := ⟨.hbm, 84, rfl⟩
abbrev main_while0b_v32 : Ref sig .tc := ⟨.hbm, 85, rfl⟩
abbrev main_while0b_v33 : Ref sig .tc := ⟨.hbm, 86, rfl⟩
abbrev main_while0b_v34 : Ref sig .tc := ⟨.hbm, 87, rfl⟩
abbrev main_while0b_cst_18 : Ref sig .tc := ⟨.hbm, 88, rfl⟩
abbrev main_while0b_v35 : Ref sig .tc := ⟨.hbm, 89, rfl⟩
abbrev main_while0b_v36 : Ref sig .tc := ⟨.hbm, 90, rfl⟩
abbrev main_while0b_cst_19 : Ref sig .tc := ⟨.hbm, 91, rfl⟩
abbrev main_while0b_v37 : Ref sig .tc := ⟨.hbm, 92, rfl⟩
abbrev main_while0b_v38 : Ref sig .tc := ⟨.hbm, 93, rfl⟩
abbrev main_while0b_v39 : Ref sig .tc := ⟨.hbm, 94, rfl⟩
abbrev main_while0b_v40 : Ref sig .tc := ⟨.hbm, 95, rfl⟩
abbrev main_while0b_cst_20 : Ref sig .tc := ⟨.hbm, 96, rfl⟩
abbrev main_while0b_v41 : Ref sig .tc := ⟨.hbm, 97, rfl⟩
abbrev main_while0b_v42 : Ref sig .tc := ⟨.hbm, 98, rfl⟩
abbrev main_while0b_cst_21 : Ref sig .tc := ⟨.hbm, 99, rfl⟩
abbrev main_while0b_v43 : Ref sig .tc := ⟨.hbm, 100, rfl⟩
abbrev main_while0b_v44 : Ref sig .tc := ⟨.hbm, 101, rfl⟩
abbrev main_while0b_v45 : Ref sig .tc := ⟨.hbm, 102, rfl⟩
abbrev main_while0b_v46 : Ref sig .tc := ⟨.hbm, 103, rfl⟩
abbrev main_while0b_v47 : Ref sig .tc := ⟨.hbm, 104, rfl⟩
abbrev main_while0b_cst_22 : Ref sig .tc := ⟨.hbm, 105, rfl⟩
abbrev main_while0b_v48 : Ref sig .tc := ⟨.hbm, 106, rfl⟩
abbrev main_while0b_v49 : Ref sig .tc := ⟨.hbm, 107, rfl⟩
abbrev main_while0b_cst_23 : Ref sig .tc := ⟨.hbm, 108, rfl⟩
abbrev main_while0b_v50 : Ref sig .tc := ⟨.hbm, 109, rfl⟩
abbrev main_while0b_v51 : Ref sig .tc := ⟨.hbm, 110, rfl⟩
abbrev main_while0b_v52 : Ref sig .tc := ⟨.hbm, 111, rfl⟩
abbrev main_while0b_v53 : Ref sig .tc := ⟨.hbm, 112, rfl⟩
abbrev main_while0b_v54 : Ref sig .tc := ⟨.hbm, 113, rfl⟩
abbrev main_while0b_v55 : Ref sig .tc := ⟨.hbm, 114, rfl⟩
abbrev main_while0b_v56 : Ref sig .tc := ⟨.hbm, 115, rfl⟩
abbrev main_while0b_v57 : Ref sig .tc := ⟨.hbm, 116, rfl⟩
abbrev main_while0b_v58 : Ref sig .tc := ⟨.hbm, 117, rfl⟩
abbrev main_while0b_v59 : Ref sig .tc := ⟨.hbm, 118, rfl⟩
abbrev main_while0b_v60 : Ref sig .tc := ⟨.hbm, 119, rfl⟩
abbrev main_while0b_v61 : Ref sig .tc := ⟨.hbm, 120, rfl⟩
abbrev main_while0b_v62 : Ref sig .tc := ⟨.hbm, 121, rfl⟩
abbrev main_while0b_v63 : Ref sig .tc := ⟨.hbm, 122, rfl⟩
abbrev main_while0b_v64 : Ref sig .tc := ⟨.hbm, 123, rfl⟩
abbrev main_while0b_v65 : Ref sig .tc := ⟨.hbm, 124, rfl⟩
abbrev main_while0b_v66 : Ref sig .tc := ⟨.hbm, 125, rfl⟩
abbrev main_while0b_v67 : Ref sig .tc := ⟨.hbm, 126, rfl⟩
abbrev main_while0b_v68 : Ref sig .tc := ⟨.hbm, 127, rfl⟩
abbrev main_while0b_v69 : Ref sig .tc := ⟨.hbm, 128, rfl⟩
abbrev main_while0b_v70 : Ref sig .tc := ⟨.hbm, 129, rfl⟩
abbrev main_while0b_v71 : Ref sig .tc := ⟨.hbm, 130, rfl⟩
abbrev main_while0b_v72 : Ref sig .tc := ⟨.hbm, 131, rfl⟩
abbrev main_while0b_v73 : Ref sig .tc := ⟨.hbm, 132, rfl⟩
abbrev main_while0b_cst_24 : Ref sig .tc := ⟨.hbm, 133, rfl⟩
abbrev main_while0b_v74 : Ref sig .tc := ⟨.hbm, 134, rfl⟩
abbrev main_while0b_v75 : Ref sig .tc := ⟨.hbm, 135, rfl⟩
abbrev main_while0b_cst_25 : Ref sig .tc := ⟨.hbm, 136, rfl⟩
abbrev main_while0b_v76 : Ref sig .tc := ⟨.hbm, 137, rfl⟩
abbrev main_while0b_v77 : Ref sig .tc := ⟨.hbm, 138, rfl⟩
abbrev main_while0b_v78 : Ref sig .tc := ⟨.hbm, 139, rfl⟩
abbrev main_while0b_v79 : Ref sig .tc := ⟨.hbm, 140, rfl⟩
abbrev main_while0b_cst_26 : Ref sig .tc := ⟨.hbm, 141, rfl⟩
abbrev main_while0b_v80 : Ref sig .tc := ⟨.hbm, 142, rfl⟩
abbrev main_while0b_v81 : Ref sig .tc := ⟨.hbm, 143, rfl⟩
abbrev main_while0b_cst_27 : Ref sig .tc := ⟨.hbm, 144, rfl⟩
abbrev main_while0b_v82 : Ref sig .tc := ⟨.hbm, 145, rfl⟩
abbrev main_while0b_v83 : Ref sig .tc := ⟨.hbm, 146, rfl⟩
abbrev main_while0b_v84 : Ref sig .tc := ⟨.hbm, 147, rfl⟩
abbrev main_while0b_v85 : Ref sig .tc := ⟨.hbm, 148, rfl⟩
abbrev main_while0b_v86 : Ref sig .tc := ⟨.hbm, 149, rfl⟩
abbrev main_while0b_cst_28 : Ref sig .tc := ⟨.hbm, 150, rfl⟩
abbrev main_while0b_v87 : Ref sig .tc := ⟨.hbm, 151, rfl⟩
abbrev main_while0b_v88 : Ref sig .tc := ⟨.hbm, 152, rfl⟩
abbrev main_while0b_cst_29 : Ref sig .tc := ⟨.hbm, 153, rfl⟩
abbrev main_while0b_v89 : Ref sig .tc := ⟨.hbm, 154, rfl⟩
abbrev main_while0b_v90 : Ref sig .tc := ⟨.hbm, 155, rfl⟩
abbrev main_while0b_v91 : Ref sig .tc := ⟨.hbm, 156, rfl⟩
abbrev main_while0b_v92 : Ref sig .tc := ⟨.hbm, 157, rfl⟩
abbrev main_while0b_v93 : Ref sig .tc := ⟨.hbm, 158, rfl⟩
abbrev main_while0b_v94 : Ref sig .tc := ⟨.hbm, 159, rfl⟩
abbrev main_while0b_v95 : Ref sig .tc := ⟨.hbm, 160, rfl⟩
abbrev main_while0b_call3_v0 : Ref sig .tc := ⟨.hbm, 161, rfl⟩
abbrev main_while0b_call3_c : Ref sig .tc := ⟨.hbm, 162, rfl⟩
abbrev main_while0b_call3_c_0 : Ref sig .tc := ⟨.hbm, 163, rfl⟩
abbrev main_while0b_v96 : Ref sig .tc := ⟨.hbm, 164, rfl⟩
abbrev main_while0b_call4_v0 : Ref sig .tc := ⟨.hbm, 165, rfl⟩
abbrev main_while0b_call4_c : Ref sig .tc := ⟨.hbm, 166, rfl⟩
abbrev main_while0b_call4_c_0 : Ref sig .tc := ⟨.hbm, 167, rfl⟩
abbrev main_while0b_v97 : Ref sig .tc := ⟨.hbm, 168, rfl⟩
abbrev main_while0b_c_30 : Ref sig .tc := ⟨.hbm, 169, rfl⟩
abbrev main_while0b_v98 : Ref sig .tc := ⟨.hbm, 170, rfl⟩
abbrev main_v7 : Ref sig .tc := ⟨.hbm, 171, rfl⟩
abbrev main_v8 : Ref sig .tc := ⟨.hbm, 172, rfl⟩
abbrev main_v9 : Ref sig .tc := ⟨.hbm, 173, rfl⟩
abbrev main_v10 : Ref sig .tc := ⟨.hbm, 174, rfl⟩
abbrev main_v11 : Ref sig .tc := ⟨.hbm, 175, rfl⟩
abbrev main_v12 : Ref sig .tc := ⟨.hbm, 176, rfl⟩
abbrev main_v13 : Ref sig .tc := ⟨.hbm, 177, rfl⟩
abbrev main_v14 : Ref sig .tc := ⟨.hbm, 178, rfl⟩
abbrev main_v15 : Ref sig .tc := ⟨.hbm, 179, rfl⟩

abbrev nD : Nat := 1
abbrev τ : Topo := Topo.v7x

variable {F : FTy → Type} [FloatOps F]

abbrev main_while0_count : Scf.Loop 32 := ⟨0#32, 200#32, 1#32⟩
-- ==== Proof.TileI.lean ====
/-
  The SparseCore call's task on one vector subcore: tile `w` (of 32) fetches its 6400 row numbers, then sixteen times
  gathers 400 table rows by the indirect stream into one of two row buffers — two streams outstanding at a time — and
  copies them to its rows of the output. What is proved is the value: the tile's 6400 output rows are the table's rows
  at its row numbers, for any contents of the table and any row numbers below 100000.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ShareLeaves
public import Idealize.ShloMosaic.Lib.Tactic
public import proofs.«01_k».proof.Proof.Gen.KernelIdeal
public import proofs.«01_k».proof.Proof.Gen.KernelIdeal.Skeleton

@[expose] public section

noncomputable section

namespace Cert.KernelIdeal.Work

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
abbrev EP : Emb UP (MT nD τ sig (HIx 1) (Elt F) ℕ UU ℕ) := (Emb.inl : Emb UP (UP × Counters)).trans embR

/-! ## The buffers and their parts -/

/-- The padded table, the row numbers and the gathered rows: the SparseCore call's two operands and its result. -/
abbrev tLoc (d : Dev nD) : Loc nD τ sig := (SparseCore.T d).loc main_v0
abbrev iLoc (d : Dev nD) : Loc nD τ sig := (SparseCore.T d).loc main_v2
abbrev oLoc (d : Dev nD) : Loc nD τ sig := (SparseCore.T d).loc main_v3

local notation "tV" => (Memref.whole Cert.KernelIdeal.main_v0_scv : Memref Cert.KernelIdeal.sig Kind.scVector Space.hbm Cert.KernelIdeal.S100000x128 EltTy.f32)
local notation "iV" => (Memref.whole Cert.KernelIdeal.main_v2_scv : Memref Cert.KernelIdeal.sig Kind.scVector Space.hbm Cert.KernelIdeal.S204800 EltTy.i32)
local notation "oV" => (Memref.whole Cert.KernelIdeal.main_v3_scv : Memref Cert.KernelIdeal.sig Kind.scVector Space.hbm Cert.KernelIdeal.S204800x128 EltTy.f32)
local notation "lV" => (Memref.whole Cert.KernelIdeal.cc1_scratch0 : Memref Cert.KernelIdeal.sig Kind.scVector Space.vmem Cert.KernelIdeal.S6400 EltTy.i32)
local notation "aV" => (Memref.whole Cert.KernelIdeal.cc1_scratch1 : Memref Cert.KernelIdeal.sig Kind.scVector Space.vmem Cert.KernelIdeal.S400x128 EltTy.f32)
local notation "bV" => (Memref.whole Cert.KernelIdeal.cc1_scratch2 : Memref Cert.KernelIdeal.sig Kind.scVector Space.vmem Cert.KernelIdeal.S400x128 EltTy.f32)

abbrev cV (L : grid1.Coords) : Fin τ.nSC := (L 0).castLE hcore1
abbrev jV (L : grid1.Coords) : Fin τ.nSub := (L 1).castLE hsub1

/-- The task's 6400 row numbers, as it addresses them; piece `r` of the fetched list; block `r` of its output rows. -/
abbrev iRectK (L : grid1.Coords) : Rect S204800 := Rect.unit (s := S204800) (k1_off1 L) S6400.size (k1_off1_inb L)
abbrev oRectK (L : grid1.Coords) (r : Fin 16) : Rect S204800x128 :=
  Rect.unit (s := S204800x128) (k1_off2 L (BitVec.ofNat 32 (400 * r.val))) S400x128.size (k1_off2_inb L r)
abbrev iK (L : grid1.Coords) : Memref sig .scVector .hbm S6400 .i32 := (iV).slice (iRectK L) (fun _ => rfl)
abbrev oK (L : grid1.Coords) (r : Fin 16) : Memref sig .scVector .hbm S400x128 .f32 := (oV).slice (oRectK L r) (fun _ => rfl)

theorem lK_inb (r : Fin 16) : ∀ a, (![400 * r.val] : Fin 1 → Nat) a + S400.size a ≤ S6400.size a := by
  intro a; match a with | 0 => have := r.isLt; show 400 * r.val + 400 ≤ 6400; omega
abbrev lK (r : Fin 16) : Memref sig .scVector .vmem S400 .i32 :=
  (lV).slice (Rect.unit (s := S6400) ![400 * r.val] S400.size (lK_inb r)) (fun _ => rfl)

variable (fT : S100000x128.Idx → Elt F .f32) (fI : S204800.Idx → Elt F .i32)

/-- The list the task fetches: its part of the row numbers. -/
def lst (L : grid1.Coords) : S6400.Idx → Elt F .i32 := (iK L).view.read (Elt F) (fI : Buf (Elt F) ((iK L).view.loc (V (0 : Dev nD) (cV L) (jV L))))

/-- The gathered rows: row `j` is the table's row at the `j`-th row number. -/
def gRows : S204800x128.Idx → Elt F .f32 := fun x =>
  fT (fun | 0 => ⟨(fI (fun | 0 => x 0)).toNat % 100000, Nat.mod_lt _ (by decide)⟩ | 1 => x 1)

/-! ## The subcore's own semaphores and scratch buffers -/

/-- The nineteen DMA semaphores the task uses: the two streams' and one for each copy. -/
abbrev sems19 : List (DmaSem sig) := [cc1_scratch3.sem, cc1_scratch4.sem, cc1_scoped0.sem, cc1_scoped1.sem, cc1_scoped2.sem, cc1_scoped3.sem, cc1_scoped4.sem, cc1_scoped5.sem, cc1_scoped6.sem, cc1_scoped7.sem, cc1_scoped8.sem, cc1_scoped9.sem, cc1_scoped10.sem, cc1_scoped11.sem, cc1_scoped12.sem, cc1_scoped13.sem, cc1_scoped14.sem, cc1_scoped15.sem, cc1_scoped16.sem]

variable (d : Dev nD) (L : grid1.Coords)

/-- The task's nineteen cells are among the subcore's own: they are them, each at zero, and the rest. -/
theorem ownSems0_V :
    (ownSems0 (V d (cV L) (jV L)) : sProp 𝕄)
      = iprop((semVal ((V d (cV L) (jV L), SemLoc.dma cc1_scratch3.sem) : GSem nD τ sig) 0 ∗ semVal ((V d (cV L) (jV L), SemLoc.dma cc1_scratch4.sem) : GSem nD τ sig) 0 ∗ semVal ((V d (cV L) (jV L), SemLoc.dma cc1_scoped0.sem) : GSem nD τ sig) 0 ∗ semVal ((V d (cV L) (jV L), SemLoc.dma cc1_scoped1.sem) : GSem nD τ sig) 0 ∗ semVal ((V d (cV L) (jV L), SemLoc.dma cc1_scoped2.sem) : GSem nD τ sig) 0 ∗ semVal ((V d (cV L) (jV L), SemLoc.dma cc1_scoped3.sem) : GSem nD τ sig) 0 ∗ semVal ((V d (cV L) (jV L), SemLoc.dma cc1_scoped4.sem) : GSem nD τ sig) 0 ∗ semVal ((V d (cV L) (jV L), SemLoc.dma cc1_scoped5.sem) : GSem nD τ sig) 0 ∗ semVal ((V d (cV L) (jV L), SemLoc.dma cc1_scoped6.sem) : GSem nD τ sig) 0 ∗ semVal ((V d (cV L) (jV L), SemLoc.dma cc1_scoped7.sem) : GSem nD τ sig) 0 ∗ semVal ((V d (cV L) (jV L), SemLoc.dma cc1_scoped8.sem) : GSem nD τ sig) 0 ∗ semVal ((V d (cV L) (jV L), SemLoc.dma cc1_scoped9.sem) : GSem nD τ sig) 0 ∗ semVal ((V d (cV L) (jV L), SemLoc.dma cc1_scoped10.sem) : GSem nD τ sig) 0 ∗ semVal ((V d (cV L) (jV L), SemLoc.dma cc1_scoped11.sem) : GSem nD τ sig) 0 ∗ semVal ((V d (cV L) (jV L), SemLoc.dma cc1_scoped12.sem) : GSem nD τ sig) 0 ∗ semVal ((V d (cV L) (jV L), SemLoc.dma cc1_scoped13.sem) : GSem nD τ sig) 0 ∗ semVal ((V d (cV L) (jV L), SemLoc.dma cc1_scoped14.sem) : GSem nD τ sig) 0 ∗ semVal ((V d (cV L) (jV L), SemLoc.dma cc1_scoped15.sem) : GSem nD τ sig) 0 ∗ semVal ((V d (cV L) (jV L), SemLoc.dma cc1_scoped16.sem) : GSem nD τ sig) 0)
          ∗ bigSep (ownCells (V d (cV L) (jV L)) \ (sems19.toFinset.map ⟨fun s => (V d (cV L) (jV L), SemLoc.dma s), fun a b h => by simpa using h⟩)) fun g => semVal g 0) := by
  unfold SparseCore.Cfg.ownSems0
  rw [SparseCore.bigSep_sdiff_split' (t := sems19.toFinset.map ⟨fun s => (V d (cV L) (jV L), SemLoc.dma s), fun a b h => by simpa using h⟩) (fun g hg => by
      obtain ⟨s, hs, rfl⟩ := Finset.mem_map.mp hg
      exact mem_ownCells.mpr ⟨rfl, (show ∀ s ∈ sems19.toFinset, (SemLoc.dma s : SemLoc sig).isScoped .scVector = true by decide) s hs⟩),
    bigSep_map, bigSep_eq_bigSepL_of_eq sems19 rfl (by decide)]
  rfl

/-- The three scratch buffers are among the subcore's own: they are them, at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  have ne : ∀ {a b : Ref sig .scVector}, a ≠ b → (Proc.scVector (cV L) (jV L) : Proc τ).devRef a ≠ (Proc.scVector (cV L) (jV L) : Proc τ).devRef b :=
    fun h e => absurd (Proc.devRef_injective _ e) h
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨ne (by decide),
      SparseCore.Cfg.mem_ownRefs_of_owner (p := Proc.scVector (cV L) (jV L)) (b := (Proc.scVector (cV L) (jV L)).devRef cc1_scratch1) rfl⟩),
    SparseCore.bigSep_erase' (Finset.mem_erase.mpr ⟨ne (by decide), Finset.mem_erase.mpr ⟨ne (by decide),
      SparseCore.Cfg.mem_ownRefs_of_owner (p := Proc.scVector (cV L) (jV L)) (b := (Proc.scVector (cV L) (jV L)).devRef cc1_scratch2) rfl⟩⟩)]

/-! ## The task -/

/-- Block `r` of the task's output rows, at the program's spelling of its offset. -/
abbrev oM (L : grid1.Coords) (c : BitVec 32) (h : ∀ a, k1_off2 L c a + S400x128.size a ≤ S204800x128.size a) : Memref sig .scVector .hbm S400x128 .f32 :=
  (oV).slice (Rect.unit (s := S204800x128) (k1_off2 L c) S400x128.size h) (fun _ => rfl)
/-- Piece of the fetched list from entry `n`. -/
abbrev lM (n : Nat) (h : ∀ a, (![n] : Fin 1 → Nat) a + S400.size a ≤ S6400.size a) : Memref sig .scVector .vmem S400 .i32 :=
  (lV).slice (Rect.unit (s := S6400) ![n] S400.size h) (fun _ => rfl)

/-- The task's output rows, block by block. -/
theorem oBlocks_eq (f : Buf (Elt F) (oLoc d)) :
    (bigSep Finset.univ fun r : Fin 16 => (oLoc d ↦[(oK L r).view.set]{fullShare} f : sProp 𝕄))
      = iprop(((oM L 0#32 (k1_off2_inb L 0)).view.loc (V d (cV L) (jV L)) ↦[(oM L 0#32 (k1_off2_inb L 0)).view.set]{fullShare} f) ∗ ((oM L 400#32 (k1_off2_inb L 1)).view.loc (V d (cV L) (jV L)) ↦[(oM L 400#32 (k1_off2_inb L 1)).view.set]{fullShare} f) ∗ ((oM L 800#32 (k1_off2_inb L 2)).view.loc (V d (cV L) (jV L)) ↦[(oM L 800#32 (k1_off2_inb L 2)).view.set]{fullShare} f) ∗ ((oM L 1200#32 (k1_off2_inb L 3)).view.loc (V d (cV L) (jV L)) ↦[(oM L 1200#32 (k1_off2_inb L 3)).view.set]{fullShare} f) ∗ ((oM L 1600#32 (k1_off2_inb L 4)).view.loc (V d (cV L) (jV L)) ↦[(oM L 1600#32 (k1_off2_inb L 4)).view.set]{fullShare} f) ∗ ((oM L 2000#32 (k1_off2_inb L 5)).view.loc (V d (cV L) (jV L)) ↦[(oM L 2000#32 (k1_off2_inb L 5)).view.set]{fullShare} f) ∗ ((oM L 2400#32 (k1_off2_inb L 6)).view.loc (V d (cV L) (jV L)) ↦[(oM L 2400#32 (k1_off2_inb L 6)).view.set]{fullShare} f) ∗ ((oM L 2800#32 (k1_off2_inb L 7)).view.loc (V d (cV L) (jV L)) ↦[(oM L 2800#32 (k1_off2_inb L 7)).view.set]{fullShare} f) ∗ ((oM L 3200#32 (k1_off2_inb L 8)).view.loc (V d (cV L) (jV L)) ↦[(oM L 3200#32 (k1_off2_inb L 8)).view.set]{fullShare} f) ∗ ((oM L 3600#32 (k1_off2_inb L 9)).view.loc (V d (cV L) (jV L)) ↦[(oM L 3600#32 (k1_off2_inb L 9)).view.set]{fullShare} f) ∗ ((oM L 4000#32 (k1_off2_inb L 10)).view.loc (V d (cV L) (jV L)) ↦[(oM L 4000#32 (k1_off2_inb L 10)).view.set]{fullShare} f) ∗ ((oM L 4400#32 (k1_off2_inb L 11)).view.loc (V d (cV L) (jV L)) ↦[(oM L 4400#32 (k1_off2_inb L 11)).view.set]{fullShare} f) ∗ ((oM L 4800#32 (k1_off2_inb L 12)).view.loc (V d (cV L) (jV L)) ↦[(oM L 4800#32 (k1_off2_inb L 12)).view.set]{fullShare} f) ∗ ((oM L 5200#32 (k1_off2_inb L 13)).view.loc (V d (cV L) (jV L)) ↦[(oM L 5200#32 (k1_off2_inb L 13)).view.set]{fullShare} f) ∗ ((oM L 5600#32 (k1_off2_inb L 14)).view.loc (V d (cV L) (jV L)) ↦[(oM L 5600#32 (k1_off2_inb L 14)).view.set]{fullShare} f) ∗ ((oM L 6000#32 (k1_off2_inb L 15)).view.loc (V d (cV L) (jV L)) ↦[(oM L 6000#32 (k1_off2_inb L 15)).view.set]{fullShare} f)) :=
  bigSep_univ_eq_bigSepL [0, 1, 2, 3, 4, 5, 6, 7, 8, 9, 10, 11, 12, 13, 14, 15] (by decide) (by decide) _

theorem lPieces_eq (f : Buf (Elt F) ((V d (cV L) (jV L)).loc cc1_scratch0)) :
    (bigSep Finset.univ fun r : Fin 16 => ((V d (cV L) (jV L)).loc cc1_scratch0 ↦[(lK r).view.set]{fullShare} f : sProp 𝕄))
      = iprop(((lM 0 inb_S6400_S400_0).view.loc (V d (cV L) (jV L)) ↦[(lM 0 inb_S6400_S400_0).view.set]{fullShare} f) ∗ ((lM 400 inb_S6400_S400_400).view.loc (V d (cV L) (jV L)) ↦[(lM 400 inb_S6400_S400_400).view.set]{fullShare} f) ∗ ((lM 800 inb_S6400_S400_800).view.loc (V d (cV L) (jV L)) ↦[(lM 800 inb_S6400_S400_800).view.set]{fullShare} f) ∗ ((lM 1200 inb_S6400_S400_1200).view.loc (V d (cV L) (jV L)) ↦[(lM 1200 inb_S6400_S400_1200).view.set]{fullShare} f) ∗ ((lM 1600 inb_S6400_S400_1600).view.loc (V d (cV L) (jV L)) ↦[(lM 1600 inb_S6400_S400_1600).view.set]{fullShare} f) ∗ ((lM 2000 inb_S6400_S400_2000).view.loc (V d (cV L) (jV L)) ↦[(lM 2000 inb_S6400_S400_2000).view.set]{fullShare} f) ∗ ((lM 2400 inb_S6400_S400_2400).view.loc (V d (cV L) (jV L)) ↦[(lM 2400 inb_S6400_S400_2400).view.set]{fullShare} f) ∗ ((lM 2800 inb_S6400_S400_2800).view.loc (V d (cV L) (jV L)) ↦[(lM 2800 inb_S6400_S400_2800).view.set]{fullShare} f) ∗ ((lM 3200 inb_S6400_S400_3200).view.loc (V d (cV L) (jV L)) ↦[(lM 3200 inb_S6400_S400_3200).view.set]{fullShare} f) ∗ ((lM 3600 inb_S6400_S400_3600).view.loc (V d (cV L) (jV L)) ↦[(lM 3600 inb_S6400_S400_3600).view.set]{fullShare} f) ∗ ((lM 4000 inb_S6400_S400_4000).view.loc (V d (cV L) (jV L)) ↦[(lM 4000 inb_S6400_S400_4000).view.set]{fullShare} f) ∗ ((lM 4400 inb_S6400_S400_4400).view.loc (V d (cV L) (jV L)) ↦[(lM 4400 inb_S6400_S400_4400).view.set]{fullShare} f) ∗ ((lM 4800 inb_S6400_S400_4800).view.loc (V d (cV L) (jV L)) ↦[(lM 4800 inb_S6400_S400_4800).view.set]{fullShare} f) ∗ ((lM 5200 inb_S6400_S400_5200).view.loc (V d (cV L) (jV L)) ↦[(lM 5200 inb_S6400_S400_5200).view.set]{fullShare} f) ∗ ((lM 5600 inb_S6400_S400_5600).view.loc (V d (cV L) (jV L)) ↦[(lM 5600 inb_S6400_S400_5600).view.set]{fullShare} f) ∗ ((lM 6000 inb_S6400_S400_6000).view.loc (V d (cV L) (jV L)) ↦[(lM 6000 inb_S6400_S400_6000).view.set]{fullShare} f)) :=
  bigSep_univ_eq_bigSepL [0, 1, 2, 3, 4, 5, 6, 7, 8, 9, 10, 11, 12, 13, 14, 15] (by decide) (by decide) _

/-- The entries of the list's piece `r`. -/
abbrev lSet (r : Fin 16) : Finset S6400.Idx := (lK r).view.set
theorem mem_lSet (r : Fin 16) (x : S6400.Idx) : x ∈ lSet r ↔ 400 * r.val ≤ (x 0).val ∧ (x 0).val < 400 * r.val + 400 := by
  show x ∈ ((View.whole (cc1_scratch0 : Ref sig .scVector)).slice (Rect.unit (s := S6400) ![400 * r.val] S400.size (lK_inb r))).set ↔ _
  rw [View.set_slice_whole, Rect.mem_set_unit]
  exact ⟨fun h => h 0, fun h a => match a with | 0 => h⟩

theorem lSet_cover : (Finset.univ : Finset (Fin 16)).biUnion lSet = Finset.univ :=
  Finset.eq_univ_iff_forall.mpr fun x => Finset.mem_biUnion.mpr
    ⟨⟨(x 0).val / 400, by have : (x 0).val < 6400 := (x 0).isLt; omega⟩, Finset.mem_univ _, (mem_lSet _ x).mpr (by
      show 400 * ((x 0).val / 400) ≤ (x 0).val ∧ (x 0).val < 400 * ((x 0).val / 400) + 400; omega)⟩

/-- The list's sixteen pieces are the list. -/
theorem lPieces_join (f : Buf (Elt F) ((V d (cV L) (jV L)).loc cc1_scratch0)) :
    ((V d (cV L) (jV L)).loc cc1_scratch0 ↦{fullShare} f : sProp 𝕄)
      = bigSep Finset.univ fun r : Fin 16 => (V d (cV L) (jV L)).loc cc1_scratch0 ↦[(lK r).view.set]{fullShare} f := by
  refine Eq.trans ?_ (pointsTo_biUnion Finset.univ (ℓ := (V d (cV L) (jV L)).loc cc1_scratch0) lSet
    fun r _ r' _ hne => Finset.disjoint_left.mpr fun x hx hx' => hne (Fin.ext (by
      have h1 := (mem_lSet r x).mp hx
      have h2 := (mem_lSet r' x).mp hx'
      omega)))
  rw [lSet_cover]

/-- Entry `y` of the fetched list's piece from `n`, as an entry of all the row numbers. -/
theorem lst_read (n : Nat) (h : ∀ a, (![n] : Fin 1 → Nat) a + S400.size a ≤ S6400.size a) (y : S400.Idx)
    (z : S204800.Idx) (hz : (z 0).val = k1_off1 L 0 + n + (y 0).val) : (lM n h).view.read (Elt F) (lst fI L) y = fI z := by
  refine (View.read_apply _ _).trans ((cast_eq _ _).trans ((View.read_apply _ _).trans ((cast_eq _ _).trans (congrArg fI (funext fun a => ?_)))))
  match a with
  | 0 => exact Fin.ext (by rw [hz]; show k1_off1 L 0 + 1 * (n + 1 * (y 0).val) = _; omega)

/-- The fetched row numbers are rows of the table, at every piece of the list. -/
theorem lst_inb (hI : ∀ j, (fI j).toNat < 100000) (n : Nat) (h : ∀ a, (![n] : Fin 1 → Nat) a + S400.size a ≤ S6400.size a) (x : S400.Idx) :
    ((lM n h).view.read (Elt F) (lst fI L) x).toNat < S100000x128.size gathers_S100000x128_S400x128.axis := by
  rw [lst_read fI L n h x (fun | 0 => ⟨k1_off1 L 0 + n + (x 0).val, by
    have h0 := k1_off1_inb L 0; have h1 := h 0; have h2 := (x 0).isLt
    change k1_off1 L 0 + 6400 ≤ 204800 at h0; change n + 400 ≤ 6400 at h1; change (x 0).val < 400 at h2
    show _ < 204800; omega⟩) rfl]
  exact hI _

/-- What a stream over the piece from `n` delivers: the table's rows at that piece's row numbers. -/
abbrev gPay (hI : ∀ j, (fI j).toNat < 100000) (n : Nat) (h : ∀ a, (![n] : Fin 1 → Nat) a + S400.size a ≤ S6400.size a) : S400x128.Idx → Elt F .f32 :=
  SparseCore.gatherPayload gathers_S100000x128_S400x128
    (((tV).slice (Rect.unit (s := S100000x128) ![0, 0] S100000x128.size inb_S100000x128_S100000x128_0_0) (fun _ => rfl)).view.read (Elt F) fT)
    (SparseCore.rows ((lM n h).view.read (Elt F) (lst fI L)) rfl (lst_inb fI L hI n h))

/-- A block of the output rows written with the stream of its piece of the list holds the gathered rows there. -/
theorem oBlock_val (hI : ∀ j, (fI j).toNat < 100000) (c : BitVec 32) (n : Nat) (hc : ∀ a, k1_off2 L c a + S400x128.size a ≤ S204800x128.size a)
    (hn : ∀ a, (![n] : Fin 1 → Nat) a + S400.size a ≤ S6400.size a) (e : k1_off2 L c = ![k1_off1 L 0 + n, 0]) (f : Buf (Elt F) (oLoc d))
    (j : Idx (oLoc d)) (hj : j ∈ (oM L c hc).view.set) :
    (oM L c hc).view.writes (Elt F) f [⟨Rect.whole S400x128, gPay fT fI L hI n hn⟩] j = gRows fT fI j := by
  obtain ⟨x, -, rfl⟩ := Finset.mem_map.mp hj
  have h := congrFun (View.read_writes_whole (Val := Elt F) (oM L c hc).view f (gPay fT fI L hI n hn)) x
  refine (((View.read_apply _ _).trans (cast_eq _ _)).symm.trans h).trans ?_
  refine (View.read_apply _ _).trans ((cast_eq _ _).trans (congrArg fT (funext fun a => Fin.ext ?_)))
  have hz : (((oM L c hc).view.emb x) 0).val = k1_off1 L 0 + n + (x 0).val := by
    show k1_off2 L c 0 + 1 * (x 0).val = _
    rw [e]; show k1_off1 L 0 + n + 1 * (x 0).val = _; omega
  match a with
  | 0 =>
    show 0 + 1 * (gathers_S100000x128_S400x128.idx _ x 0).val = _
    rw [show (gathers_S100000x128_S400x128.idx (SparseCore.rows ((lM n hn).view.read (Elt F) (lst fI L)) rfl (lst_inb fI L hI n hn)) x 0)
      = _ from Shape.Gathers.idx_axis gathers_S100000x128_S400x128 _ x]
    show 0 + 1 * ((lM n hn).view.read (Elt F) (lst fI L) (S400.rowMajor.symm ((x 0).cast _))).toNat = _
    rw [lst_read fI L n hn _ (fun | 0 => ((oM L c hc).view.emb x) 0) (by
      show (((oM L c hc).view.emb x) 0).val = _
      rw [hz, ← Shape.rowMajor_val_one (S400.rowMajor.symm _), Equiv.apply_symm_apply]; rfl)]
    show _ = (fI _).toNat % 100000
    rw [Nat.mod_eq_of_lt (hI _)]; omega
  | 1 =>
    show 0 + 1 * (gathers_S100000x128_S400x128.idx _ x 1).val = (((oM L c hc).view.emb x) 1).val
    rw [Shape.Gathers.idx_of_ne gathers_S100000x128_S400x128 _ x 1 (by decide)]
    show _ = k1_off2 L c 1 + 1 * (x 1).val
    rw [e]; show 0 + 1 * (x 1).val = 0 + 1 * (x 1).val; rfl

/-! ## The 32 tasks' parts of the row numbers, of the output rows and of the table -/

def coordsV (c : Fin 2) (s : Fin 16) : grid1.Coords :=
  fun | 0 => (c : Fin (grid1.bound 0)) | 1 => (s : Fin (grid1.bound 1)) | ⟨_ + 2, h⟩ => absurd h (Nat.not_lt.2 (Nat.le_add_left _ _))

/-- The row numbers of the task at `L`, and block `r` of its output rows. -/
abbrev iSet (L : grid1.Coords) : Finset S204800.Idx := (iK L).view.set
abbrev oSet (L : grid1.Coords) (r : Fin 16) : Finset S204800x128.Idx := (oK L r).view.set

theorem mem_iSet (L : grid1.Coords) (x : S204800.Idx) :
    x ∈ iSet L ↔ 12800 * (L 1).val + 6400 * (L 0).val ≤ (x 0).val ∧ (x 0).val < 12800 * (L 1).val + 6400 * (L 0).val + 6400 := by
  show x ∈ ((View.whole (main_v2_scv : Ref sig .scVector)).slice (iRectK L)).set ↔ _
  rw [View.set_slice_whole, Rect.mem_set_unit, k1_off1_eq]
  exact ⟨fun h => h 0, fun h a => match a with | 0 => h⟩

theorem mem_oSet (L : grid1.Coords) (r : Fin 16) (x : S204800x128.Idx) :
    x ∈ oSet L r ↔ 12800 * (L 1).val + 6400 * (L 0).val + 400 * r.val ≤ (x 0).val
      ∧ (x 0).val < 12800 * (L 1).val + 6400 * (L 0).val + 400 * r.val + 400 := by
  show x ∈ ((View.whole (main_v3_scv : Ref sig .scVector)).slice (oRectK L r)).set ↔ _
  rw [View.set_slice_whole, Rect.mem_set_unit, k1_off2_eq]
  exact ⟨fun h => h 0, fun h a => match a with | 0 => h | 1 => ⟨Nat.zero_le _, by have h1 : (x 1).val < 128 := (x 1).isLt; show (x 1).val < 0 + 128; omega⟩⟩

/-- All the row numbers, task by task. -/
theorem iPts_tasks (f : Buf (Elt F) (iLoc d)) :
    (iLoc d ↦{fullShare} f : sProp 𝕄) = bigSep Finset.univ fun c : Fin 2 => bigSep Finset.univ fun i : Fin 16 => iLoc d ↦[iSet (coordsV c i)]{fullShare} f := by
  rw [← bigSep_univ_prod (fun p : Fin 2 × Fin 16 => (iLoc d ↦[iSet (coordsV p.1 p.2)]{fullShare} f : sProp 𝕄))]
  refine Eq.trans ?_ (pointsTo_biUnion Finset.univ (ℓ := iLoc d) (fun p : Fin 2 × Fin 16 => iSet (coordsV p.1 p.2))
    fun p _ p' _ hne => Finset.disjoint_left.mpr fun x hx hx' => hne ?_)
  · rw [show (Finset.univ : Finset (Fin 2 × Fin 16)).biUnion (fun p => iSet (coordsV p.1 p.2)) = Finset.univ from
      Finset.eq_univ_iff_forall.mpr fun x => Finset.mem_biUnion.mpr ⟨(⟨(x 0).val / 6400 % 2, by omega⟩, ⟨(x 0).val / 12800, by
        have : (x 0).val < 204800 := (x 0).isLt; omega⟩), Finset.mem_univ _, (mem_iSet _ x).mpr (by
          show 12800 * ((x 0).val / 12800) + 6400 * ((x 0).val / 6400 % 2) ≤ (x 0).val
            ∧ (x 0).val < 12800 * ((x 0).val / 12800) + 6400 * ((x 0).val / 6400 % 2) + 6400
          omega)⟩]
  · have h1 : 12800 * p.2.val + 6400 * p.1.val ≤ (x 0).val ∧ (x 0).val < 12800 * p.2.val + 6400 * p.1.val + 6400 := (mem_iSet _ x).mp hx
    have h2 : 12800 * p'.2.val + 6400 * p'.1.val ≤ (x 0).val ∧ (x 0).val < 12800 * p'.2.val + 6400 * p'.1.val + 6400 := (mem_iSet _ x).mp hx'
    have := p.1.isLt; have := p'.1.isLt
    exact Prod.ext (Fin.ext (by omega)) (Fin.ext (by omega))

/-- All the output rows, task by task and block by block. -/
theorem oPts_tasks (f : Buf (Elt F) (oLoc d)) :
    (oLoc d ↦{fullShare} f : sProp 𝕄) = bigSep Finset.univ fun c : Fin 2 => bigSep Finset.univ fun i : Fin 16 =>
      bigSep Finset.univ fun r : Fin 16 => oLoc d ↦[oSet (coordsV c i) r]{fullShare} f := by
  rw [bigSep_congr (fun c _ => (bigSep_univ_prod (fun p : Fin 16 × Fin 16 => (oLoc d ↦[oSet (coordsV c p.1) p.2]{fullShare} f : sProp 𝕄))).symm),
    ← bigSep_univ_prod (fun p : Fin 2 × Fin 16 × Fin 16 => (oLoc d ↦[oSet (coordsV p.1 p.2.1) p.2.2]{fullShare} f : sProp 𝕄))]
  refine Eq.trans ?_ (pointsTo_biUnion Finset.univ (ℓ := oLoc d) (fun p : Fin 2 × Fin 16 × Fin 16 => oSet (coordsV p.1 p.2.1) p.2.2)
    fun p _ p' _ hne => Finset.disjoint_left.mpr fun x hx hx' => hne ?_)
  · rw [show (Finset.univ : Finset (Fin 2 × Fin 16 × Fin 16)).biUnion (fun p => oSet (coordsV p.1 p.2.1) p.2.2) = Finset.univ from
      Finset.eq_univ_iff_forall.mpr fun x => Finset.mem_biUnion.mpr ⟨(⟨(x 0).val / 6400 % 2, by omega⟩, ⟨(x 0).val / 12800, by
        have : (x 0).val < 204800 := (x 0).isLt; omega⟩, ⟨(x 0).val / 400 % 16, by omega⟩), Finset.mem_univ _, (mem_oSet _ _ x).mpr (by
          show 12800 * ((x 0).val / 12800) + 6400 * ((x 0).val / 6400 % 2) + 400 * ((x 0).val / 400 % 16) ≤ (x 0).val
            ∧ (x 0).val < 12800 * ((x 0).val / 12800) + 6400 * ((x 0).val / 6400 % 2) + 400 * ((x 0).val / 400 % 16) + 400
          omega)⟩]
  · have h1 : 12800 * p.2.1.val + 6400 * p.1.val + 400 * p.2.2.val ≤ (x 0).val ∧ (x 0).val < 12800 * p.2.1.val + 6400 * p.1.val + 400 * p.2.2.val + 400 :=
      (mem_oSet _ _ x).mp hx
    have h2 : 12800 * p'.2.1.val + 6400 * p'.1.val + 400 * p'.2.2.val ≤ (x 0).val ∧ (x 0).val < 12800 * p'.2.1.val + 6400 * p'.1.val + 400 * p'.2.2.val + 400 :=
      (mem_oSet _ _ x).mp hx'
    have := p.1.isLt; have := p'.1.isLt; have := p.2.2.isLt; have := p'.2.2.isLt
    exact Prod.ext (Fin.ext (by omega)) (Prod.ext (Fin.ext (by omega)) (Fin.ext (by omega)))

/-- A task's share of the table: the full share halved five times. -/
def tEquiv : Fin 2 × Fin 16 ≃ Fin (2 ^ 5) := (finProdFinEquiv : Fin 2 × Fin 16 ≃ Fin (2 * 16)).trans (finCongr (by norm_num))
abbrev tShare (c : Fin 2) (i : Fin 16) : PosShare TreeShare := leaf 5 fullShare (tEquiv (c, i))

set_option maxRecDepth 16384 in
/-- The whole table is the 32 tasks' shares of it. -/
theorem tPts_tasks (f : Buf (Elt F) (tLoc d)) :
    (tLoc d ↦{fullShare} f : sProp 𝕄) = bigSep Finset.univ fun c : Fin 2 => bigSep Finset.univ fun i : Fin 16 => tLoc d ↦{tShare c i} f :=
  (pointsTo_leaves (ℓ := tLoc d) Finset.univ f 5 fullShare).trans
    ((bigSep_univ_equiv tEquiv fun i => (tLoc d ↦{leaf 5 fullShare i} f : sProp 𝕄)).trans
      (bigSep_univ_prod (fun p : Fin 2 × Fin 16 => (tLoc d ↦{tShare p.1 p.2} f : sProp 𝕄))))

end Cert.KernelIdeal.Work

end
-- ==== Proof.TaskI.lean ====
/-
  The SparseCore call as the launch sees it: the task on one vector subcore (the executor through all its transfers),
  its obligation, and how the 32 tasks share the row numbers, the table and the output rows.
-/
module

public import proofs.«01_k».proof.Proof.TileI

@[expose] public section

noncomputable section

namespace Cert.KernelIdeal.Work

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves

variable {F : FTy → Type}

local notation "𝕄" => MT nD τ sig (HIx 1) (Elt F) ℕ UU ℕ

local notation "tV" => (Memref.whole Cert.KernelIdeal.main_v0_scv : Memref Cert.KernelIdeal.sig Kind.scVector Space.hbm Cert.KernelIdeal.S100000x128 EltTy.f32)
local notation "iV" => (Memref.whole Cert.KernelIdeal.main_v2_scv : Memref Cert.KernelIdeal.sig Kind.scVector Space.hbm Cert.KernelIdeal.S204800 EltTy.i32)
local notation "oV" => (Memref.whole Cert.KernelIdeal.main_v3_scv : Memref Cert.KernelIdeal.sig Kind.scVector Space.hbm Cert.KernelIdeal.S204800x128 EltTy.f32)
local notation "lV" => (Memref.whole Cert.KernelIdeal.cc1_scratch0 : Memref Cert.KernelIdeal.sig Kind.scVector Space.vmem Cert.KernelIdeal.S6400 EltTy.i32)
local notation "aV" => (Memref.whole Cert.KernelIdeal.cc1_scratch1 : Memref Cert.KernelIdeal.sig Kind.scVector Space.vmem Cert.KernelIdeal.S400x128 EltTy.f32)
local notation "bV" => (Memref.whole Cert.KernelIdeal.cc1_scratch2 : Memref Cert.KernelIdeal.sig Kind.scVector Space.vmem Cert.KernelIdeal.S400x128 EltTy.f32)

variable (fT : S100000x128.Idx → Elt F .f32) (fI : S204800.Idx → Elt F .i32)
variable (d : Dev nD) (L : grid1.Coords)

/-- What the task takes: its row numbers, its share of the table, its output rows at some contents. -/
abbrev tileIn (q : PosShare TreeShare) (f : Buf (Elt F) (oLoc d)) : sProp 𝕄 :=
  iprop((iLoc d ↦[(iK L).view.set]{fullShare} fI) ∗ (tLoc d ↦{q} fT)
    ∗ bigSep Finset.univ fun r : Fin 16 => (oLoc d ↦[(oK L r).view.set]{fullShare} f))

variable [FloatOps F]

/-- A row buffer read back after a whole write is what was written last. -/
theorem aRead (f p : S400x128.Idx → Elt F .f32) (l : List (View.Piece (Elt F) S400x128 .f32)) :
    (aV).view.read (Elt F) ((aV).view.writes (Elt F) f (⟨Rect.whole S400x128, p⟩ :: l)) = p :=
  funext fun x => View.read_writes_cons_hit (aV).view f (Rect.whole S400x128) p l x x (Rect.emb_whole_apply _ _)

theorem bRead (f p : S400x128.Idx → Elt F .f32) (l : List (View.Piece (Elt F) S400x128 .f32)) :
    (bV).view.read (Elt F) ((bV).view.writes (Elt F) f (⟨Rect.whole S400x128, p⟩ :: l)) = p :=
  funext fun x => View.read_writes_cons_hit (bV).view f (Rect.whole S400x128) p l x x (Rect.emb_whole_apply _ _)

omit [FloatOps F] in
theorem k1_off2_at (r : Fin 16) : k1_off2 L (BitVec.ofNat 32 (400 * r.val)) = ![k1_off1 L 0 + 400 * r.val, 0] := by
  rw [k1_off2_eq, k1_off1_eq]; rfl

omit [FloatOps F] in
/-- A block written with its stream is the block of the gathered rows. -/
theorem oDone (hI : ∀ j, (fI j).toNat < 100000) (f : Buf (Elt F) (oLoc d)) (c : BitVec 32) (n : Nat)
    (hc : ∀ a, k1_off2 L c a + S400x128.size a ≤ S204800x128.size a)
    (hn : ∀ a, (![n] : Fin 1 → Nat) a + S400.size a ≤ S6400.size a) (e : k1_off2 L c = ![k1_off1 L 0 + n, 0])
    (p : S400x128.Idx → Elt F .f32) (hp : p = gPay fT fI L hI n hn) :
    ((oM L c hc).view.loc (V d (cV L) (jV L)) ↦[(oM L c hc).view.set]{fullShare} (oM L c hc).view.writes (Elt F) f [⟨Rect.whole S400x128, p⟩] : sProp 𝕄)
      = ((oM L c hc).view.loc (V d (cV L) (jV L)) ↦[(oM L c hc).view.set]{fullShare} gRows fT fI) := by
  subst hp
  exact pointsTo_congr fun j hj => oBlock_val fT fI d L hI c n hc hn e f j hj

set_option maxHeartbeats 4000000 in
theorem tile_body (hF : (K (F := F)).Facts) (hI : ∀ j, (fI j).toNat < 100000) (q : PosShare TreeShare) (f : Buf (Elt F) (oLoc d))
    (O : CellTallies nD τ sig (HIx 1)) (W : Waits sig (HIx 1)) (hO : ∀ g, O g none = 0) :
    iprop(levAts (K (F := F)).L (K (F := F)).lev ∗ emp ∗ tileIn fT fI d L q f
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_k L tV (Memref.isWhole_whole _) iV (Memref.isWhole_whole _) oV (Memref.isWhole_whole _)
            lV (Memref.isWhole_whole _) aV (Memref.isWhole_whole _) bV (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16)
          fun _ => iprop(tileIn fT fI d L q (gRows fT fI)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1_k_eq_skeleton]; unfold cc1_k_skel
  simp only [k1_part1_eq_skeleton, k1_part2_eq_skeleton, k1_part3_eq_skeleton, k1_part4_eq_skeleton, k1_part5_eq_skeleton, k1_part6_eq_skeleton]
  unfold k1_part1_skel k1_part2_skel k1_part3_skel k1_part4_skel k1_part5_skel k1_part6_skel
  unfold tileIn
  rw [(K (F := F)).scopedBufs_V hF d (cV L) (jV L), SparseCore.Cfg.scopedSems0_V (Val := Elt F) d (cV L) (jV L), ownSems0_V, ownBufs_V, oBlocks_eq d L f]
  iintro ⟨#Hlv, -, ⟨Hi, Ht, Ho0, Ho1, Ho2, Ho3, Ho4, Ho5, Ho6, Ho7, Ho8, Ho9, Ho10, Ho11, Ho12, Ho13, Ho14, Ho15⟩, ⟨⟨%fl, Hl⟩, ⟨%fa, Ha⟩, ⟨%fb, Hb⟩, Hbufs⟩, ⟨⟨Hs0, Hs1, Hs2, Hs3, Hs4, Hs5, Hs6, Hs7, Hs8, Hs9, Hs10, Hs11, Hs12, Hs13, Hs14, Hs15, Hs16, Hs17, Hs18⟩, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (show (iLoc d ↦[(iK L).view.set]{fullShare} fI : sProp 𝕄) = ((iK L).view.loc (V d (cV L) (jV L)) ↦[(iK L).view.set]{fullShare} fI) from rfl)) $$ Hi
  ihave Hl' := (Entails.of_eq (show ((V d (cV L) (jV L)).loc cc1_scratch0 ↦{fullShare} fl : sProp 𝕄) = ((lV).view.loc (V d (cV L) (jV L)) ↦{fullShare} fl) from rfl)) $$ Hl
  sl_exec
  have hl : View.write (Elt F) (lV).view fl (tile_body.sl.dma0 fI L) Finset.univ = lst fI L := by
    rw [View.write_whole_univ]; rfl
  have hin := lst_inb (F := F) fI L hI
  ihave Hl := (Entails.of_eq (show ((lV).view.loc (V d (cV L) (jV L)) ↦{fullShare} View.write (Elt F) (lV).view fl (tile_body.sl.dma0 fI L) Finset.univ : sProp 𝕄)
      = _ from (congrArg (fun g => ((lV).view.loc (V d (cV L) (jV L)) ↦{fullShare} g : sProp 𝕄)) hl).trans ((lPieces_join d L (lst fI L)).trans (lPieces_eq d L (lst fI L))))) $$ Hl'
  icases Hl with ⟨Hl0, Hl1, Hl2, Hl3, Hl4, Hl5, Hl6, Hl7, Hl8, Hl9, Hl10, Hl11, Hl12, Hl13, Hl14, Hl15⟩
  ihave Ha := (show ((V d (cV L) (jV L)).loc cc1_scratch1 ↦{fullShare} fa : sProp 𝕄) ⊢ ((aV).view.loc (V d (cV L) (jV L)) ↦{fullShare} fa) from .rfl) $$ Ha
  ihave Hb := (show ((V d (cV L) (jV L)).loc cc1_scratch2 ↦{fullShare} fb : sProp 𝕄) ⊢ ((bV).view.loc (V d (cV L) (jV L)) ↦{fullShare} fb) from .rfl) $$ Hb
  ihave Ht2 := (show (tLoc d ↦{q} fT : sProp 𝕄) ⊢ iprop(((tV).view.loc (V d (cV L) (jV L)) ↦{q.left} fT) ∗ ((tV).view.loc (V d (cV L) (jV L)) ↦{q.right} fT))
    from (pointsTo_share (PosShare.mem_left_op_right q)).1) $$ Ht
  icases Ht2 with ⟨Ht0, Ht1⟩
  sl_exec
  ihave Ho0 := (Entails.of_eq (oDone fT fI d L hI f 0#32 0 (k1_off2_inb L 0) inb_S6400_S400_0 (k1_off2_at L 0) (tile_body.sl.dma0_1 fT fI d L fa hin) (aRead _ _ _))) $$ Ho0
  ihave Ho1 := (Entails.of_eq (oDone fT fI d L hI f 400#32 400 (k1_off2_inb L 1) inb_S6400_S400_400 (k1_off2_at L 1) (tile_body.sl.dma0_2 fT fI d L fb hin) (bRead _ _ _))) $$ Ho1
  ihave Ho2 := (Entails.of_eq (oDone fT fI d L hI f 800#32 800 (k1_off2_inb L 2) inb_S6400_S400_800 (k1_off2_at L 2) (tile_body.sl.dma0_3 fT fI d L fa hin) (aRead _ _ _))) $$ Ho2
  ihave Ho3 := (Entails.of_eq (oDone fT fI d L hI f 1200#32 1200 (k1_off2_inb L 3) inb_S6400_S400_1200 (k1_off2_at L 3) (tile_body.sl.dma0_4 fT fI d L fb hin) (bRead _ _ _))) $$ Ho3
  ihave Ho4 := (Entails.of_eq (oDone fT fI d L hI f 1600#32 1600 (k1_off2_inb L 4) inb_S6400_S400_1600 (k1_off2_at L 4) (tile_body.sl.dma0_5 fT fI d L fa hin) (aRead _ _ _))) $$ Ho4
  ihave Ho5 := (Entails.of_eq (oDone fT fI d L hI f 2000#32 2000 (k1_off2_inb L 5) inb_S6400_S400_2000 (k1_off2_at L 5) (tile_body.sl.dma0_6 fT fI d L fb hin) (bRead _ _ _))) $$ Ho5
  ihave Ho6 := (Entails.of_eq (oDone fT fI d L hI f 2400#32 2400 (k1_off2_inb L 6) inb_S6400_S400_2400 (k1_off2_at L 6) (tile_body.sl.dma0_7 fT fI d L fa hin) (aRead _ _ _))) $$ Ho6
  ihave Ho7 := (Entails.of_eq (oDone fT fI d L hI f 2800#32 2800 (k1_off2_inb L 7) inb_S6400_S400_2800 (k1_off2_at L 7) (tile_body.sl.dma0_8 fT fI d L fb hin) (bRead _ _ _))) $$ Ho7
  ihave Ho8 := (Entails.of_eq (oDone fT fI d L hI f 3200#32 3200 (k1_off2_inb L 8) inb_S6400_S400_3200 (k1_off2_at L 8) (tile_body.sl.dma0_9 fT fI d L fa hin) (aRead _ _ _))) $$ Ho8
  ihave Ho9 := (Entails.of_eq (oDone fT fI d L hI f 3600#32 3600 (k1_off2_inb L 9) inb_S6400_S400_3600 (k1_off2_at L 9) (tile_body.sl.dma0_10 fT fI d L fb hin) (bRead _ _ _))) $$ Ho9
  ihave Ho10 := (Entails.of_eq (oDone fT fI d L hI f 4000#32 4000 (k1_off2_inb L 10) inb_S6400_S400_4000 (k1_off2_at L 10) (tile_body.sl.dma0_11 fT fI d L fa hin) (aRead _ _ _))) $$ Ho10
  ihave Ho11 := (Entails.of_eq (oDone fT fI d L hI f 4400#32 4400 (k1_off2_inb L 11) inb_S6400_S400_4400 (k1_off2_at L 11) (tile_body.sl.dma0_12 fT fI d L fb hin) (bRead _ _ _))) $$ Ho11
  ihave Ho12 := (Entails.of_eq (oDone fT fI d L hI f 4800#32 4800 (k1_off2_inb L 12) inb_S6400_S400_4800 (k1_off2_at L 12) (tile_body.sl.dma0_13 fT fI d L fa hin) (aRead _ _ _))) $$ Ho12
  ihave Ho13 := (Entails.of_eq (oDone fT fI d L hI f 5200#32 5200 (k1_off2_inb L 13) inb_S6400_S400_5200 (k1_off2_at L 13) (tile_body.sl.dma0_14 fT fI d L fb hin) (bRead _ _ _))) $$ Ho13
  ihave Ho14 := (Entails.of_eq (oDone fT fI d L hI f 5600#32 5600 (k1_off2_inb L 14) inb_S6400_S400_5600 (k1_off2_at L 14) (tile_body.sl.dma0_15 fT fI d L fa hin) (aRead _ _ _))) $$ Ho14
  ihave Ho15 := (Entails.of_eq (oDone fT fI d L hI f 6000#32 6000 (k1_off2_inb L 15) inb_S6400_S400_6000 (k1_off2_at L 15) (tile_body.sl.dma0_16 fT fI d L fb hin) (bRead _ _ _))) $$ Ho15
  ihave Ht := (show iprop(((tV).view.loc (V d (cV L) (jV L)) ↦{q.left} fT) ∗ ((tV).view.loc (V d (cV L) (jV L)) ↦{q.right} fT)) ⊢ (tLoc d ↦{q} fT : sProp 𝕄)
    from (pointsTo_share (PosShare.mem_left_op_right q)).2) $$ [Ht0 Ht1]
  · iframe
  sl_step
  isplitl [Hi' Ht Ho0 Ho1 Ho2 Ho3 Ho4 Ho5 Ho6 Ho7 Ho8 Ho9 Ho10 Ho11 Ho12 Ho13 Ho14 Ho15]
  · isplitl [Hi']
    · iexact Hi'
    · isplitl [Ht]
      · iexact Ht
      · rw [oBlocks_eq d L (gRows fT fI)]; iframe
  isplitl [Hl0 Hl1 Hl2 Hl3 Hl4 Hl5 Hl6 Hl7 Hl8 Hl9 Hl10 Hl11 Hl12 Hl13 Hl14 Hl15 Ha Hb Hbufs]
  · isplitl [Hl0 Hl1 Hl2 Hl3 Hl4 Hl5 Hl6 Hl7 Hl8 Hl9 Hl10 Hl11 Hl12 Hl13 Hl14 Hl15]
    · iexists lst fI L
      rw [lPieces_join d L (lst fI L), lPieces_eq d L (lst fI L)]; iframe
    · isplitl [Ha]
      · iexists _; iexact Ha
      · isplitl [Hb]
        · iexists _; iexact Hb
        · iexact Hbufs
  isplitl [Hs0 Hs1 Hs2 Hs3 Hs4 Hs5 Hs6 Hs7 Hs8 Hs9 Hs10 Hs11 Hs12 Hs13 Hs14 Hs15 Hs16 Hs17 Hs18 Hsems]
  · isplitr [Hsems]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      isplitl [Hs7]; · iexact Hs7
      isplitl [Hs8]; · iexact Hs8
      isplitl [Hs9]; · iexact Hs9
      isplitl [Hs10]; · iexact Hs10
      isplitl [Hs11]; · iexact Hs11
      isplitl [Hs12]; · iexact Hs12
      isplitl [Hs13]; · iexact Hs13
      isplitl [Hs14]; · iexact Hs14
      isplitl [Hs15]; · iexact Hs15
      isplitl [Hs16]; · iexact Hs16
      isplitl [Hs17]; · iexact Hs17
      iexact Hs18
    · iexact Hsems
  · iexists _; isplitr; swap
    · iexact HO
    · ipureintro; intro p hp
      simp only [Finset.mem_insert] at hp
      rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | hp
      all_goals first | exact .inl hp | exact .inr rfl

/-! ## The obligation -/

theorem defs₀_vector (c : Fin τ.nSC) (s : Fin τ.nSub) :
    defs₀ (F := F) (.scVector c s) 1 ()
      = SparseCore.onTile hcore1 hsub1 (fun c s => cc1_k (coordsV c s) tV (Memref.isWhole_whole _) iV (Memref.isWhole_whole _) oV (Memref.isWhole_whole _)
          lV (Memref.isWhole_whole _) aV (Memref.isWhole_whole _) bV (Memref.isWhole_whole _) cc1_scratch3 cc1_scratch4 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  iframe
  iexists W'; isplitr
  · ipureintro; exact fun p hp => (hW' p hp).imp_right Or.inl
  · iexact HO

/-! What the call finds and leaves on each device: the table and the row numbers (`cT`, `cI`), the output rows at `cO` before
    and gathered after. Core `c` carries its sixteen tasks' parts, so that the split among the tasks is the identity. -/

variable (cT : Dev nD → S100000x128.Idx → Elt F .f32) (cI : Dev nD → S204800.Idx → Elt F .i32) (cO : Dev nD → S204800x128.Idx → Elt F .f32)

abbrev taskIn (d : Dev nD) (c : Fin 2) (i : Fin 16) : sProp 𝕄 := tileIn (cT d) (cI d) d (coordsV c i) (tShare c i) (cO d)
abbrev taskOut (d : Dev nD) (c : Fin 2) (i : Fin 16) : sProp 𝕄 := tileIn (cT d) (cI d) d (coordsV c i) (tShare c i) (gRows (cT d) (cI d))

def P : (K (F := F)).Pay (nD := nD) (Val := Elt F) (Name := ℕ) (U := UU) where
  st := fun q d c => match q with | 0 => bigSep Finset.univ fun i : Fin 16 => taskIn cT cI cO d (Fin.cast nCore_zero c) i
  dn := fun q d c => match q with | 0 => bigSep Finset.univ fun i : Fin 16 => taskOut cT cI d (Fin.cast nCore_zero c) i
  go := fun q d c i => match q with | 0 => taskIn cT cI cO d (Fin.cast nCore_zero c) (Fin.cast nSub_zero i)
  td := fun q d c i => match q with | 0 => taskOut cT cI d (Fin.cast nCore_zero c) (Fin.cast nSub_zero i)
  x := fun _ _ => iprop(emp)

instance P_storable : (P (F := F) cT cI cO).IsStorable where
  st q d c := match q with
    | 0 => (inferInstance : BI.Storable (upEmb : UEmb _ 𝕄) iprop(bigSep Finset.univ fun i : Fin 16 => taskIn cT cI cO d (Fin.cast nCore_zero c) i))
  dn q d c := match q with
    | 0 => (inferInstance : BI.Storable (upEmb : UEmb _ 𝕄) iprop(bigSep Finset.univ fun i : Fin 16 => taskOut cT cI d (Fin.cast nCore_zero c) i))
  go q d c i := match q with
    | 0 => (inferInstance : BI.Storable (upEmb : UEmb _ 𝕄) (taskIn cT cI cO d (Fin.cast nCore_zero c) (Fin.cast nSub_zero i)))
  td q d c i := match q with
    | 0 => (inferInstance : BI.Storable (upEmb : UEmb _ 𝕄) (taskOut cT cI d (Fin.cast nCore_zero c) (Fin.cast nSub_zero i)))

set_option maxRecDepth 16384 in
/-- Every task does its part of the call. -/
theorem tileObl (hF : (K (F := F)).Facts) (hI : ∀ d j, (cI d j).toNat < 100000) : (K (F := F)).TileObl (D (F := F)) 𝒱 (P cT cI cO) v₀ 0 := by
  intro d c i O W hO _ _
  simp only [show (P cT cI cO).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body (cT d) (cI d) d (coordsV ⟨_, hci.1⟩ ⟨_, hci.2⟩) hF (hI d) (tShare ⟨_, hci.1⟩ ⟨_, hci.2⟩) (cO d) O W hO).trans (wp_mono frame _ _ fun _ => obl_post)

omit [FloatOps F] in
theorem bigSep_subs (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- Each core hands its tasks their parts and takes them back as they are. -/
theorem vecSplit : (K (F := F)).VecSplit' (P cT cI cO) 0 := by
  intro d c
  show (bigSep Finset.univ fun i : Fin 16 => taskIn cT cI cO d (Fin.cast nCore_zero c) i) ⊢ |={Set.univ}=> iprop(
      (bigSep Finset.univ fun i : Fin ((K (F := F)).nSub 0) => taskIn cT cI cO d (Fin.cast nCore_zero c) (Fin.cast nSub_zero i))
      ∗ ((bigSep Finset.univ fun i : Fin ((K (F := F)).nSub 0) => taskOut cT cI d (Fin.cast nCore_zero c) (Fin.cast nSub_zero i))
          -∗ bigSep Finset.univ fun i : Fin 16 => taskOut cT cI d (Fin.cast nCore_zero c) i))
  rw [bigSep_subs (F := F) (fun i => taskIn cT cI cO d (Fin.cast nCore_zero c) i), bigSep_subs (F := F) (fun i => taskOut cT cI d (Fin.cast nCore_zero c) i)]
  iintro H; imodintro
  isplitl [H]; · iexact H
  iintro H; iexact H

/-- The three arrays at `cT`, `cI` and `f` are all the tasks' parts of them. -/
theorem parts_eq (f : S204800x128.Idx → Elt F .f32) (d : Dev nD) :
    (bigSep Finset.univ fun c : Fin 2 => bigSep Finset.univ fun i : Fin 16 => tileIn (cT d) (cI d) d (coordsV c i) (tShare c i) f : sProp 𝕄)
      = iprop((iLoc d ↦{fullShare} cI d) ∗ (tLoc d ↦{fullShare} cT d) ∗ oLoc d ↦{fullShare} f) := by
  rw [iPts_tasks, tPts_tasks, oPts_tasks, ← bigSep_sep', ← bigSep_sep']
  refine bigSep_congr fun c _ => ?_
  rw [← bigSep_sep', ← bigSep_sep']

theorem st_eq (d : Dev nD) : (bigSep Finset.univ fun c : Fin ((K (F := F)).nCore 0) => (P cT cI cO).st 0 d c)
    = iprop((iLoc d ↦{fullShare} cI d) ∗ (tLoc d ↦{fullShare} cT d) ∗ oLoc d ↦{fullShare} cO d) :=
  (bigSep_cores (F := F) (fun c => bigSep Finset.univ fun i : Fin 16 => taskIn cT cI cO d c i)).trans (parts_eq cT cI (cO d) d)

theorem dn_eq (d : Dev nD) : (bigSep Finset.univ fun c : Fin ((K (F := F)).nCore 0) => (P cT cI cO).dn 0 d c)
    = iprop((iLoc d ↦{fullShare} cI d) ∗ (tLoc d ↦{fullShare} cT d) ∗ oLoc d ↦{fullShare} gRows (cT d) (cI d)) :=
  (bigSep_cores (F := F) (fun c => bigSep Finset.univ fun i : Fin 16 => taskOut cT cI d c i)).trans (parts_eq cT cI (gRows (cT d) (cI d)) d)

end Cert.KernelIdeal.Work

end
-- ==== Proof.SegI.lean ====
/-
  A kernel region inside a SparseCore program: the launch of a TensorCore pipeline between host operations, while the
  core still owes the SparseCore calls to come. The core's handshake evidence is kept through the region: what the
  region's own waits record stays at the pipelines' level, below every call's.
-/
module

public import proofs.«01_k».proof.Proof.TileI
public import proofs.«01_k».proof.Proof.Gen.KernelIdeal.Launch
public import proofs.«01_k».proof.Proof.Gen.KernelIdeal.Points
public import Idealize.ShloMosaic.Lib.Pipeline.RegionArrays
public import Idealize.ShloMosaic.Lib.Pipeline.FrameTail
public import Idealize.ShloMosaic.Lib.Pipeline.RegionsLoop
public import Idealize.ShloMosaic.Lib.Pipeline.Frame
public import Idealize.ShloMosaic.Lib.Pipeline.FrameBody
public import Idealize.ShloMosaic.Lib.Pipeline.ValueKit

@[expose] public section

noncomputable section

namespace Cert.KernelIdeal.Work

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline
open TcCoe

variable {F : FTy → Type} [FloatOps F]

local notation "𝕄" => MT nD τ sig (HIx 1) (Elt F) ℕ UU ℕ

/-- The pairs a core's waits may have recorded with `n` calls done: those at or below the level of call `n`'s start. -/
abbrev recAt (d : Dev nD) (n : ℕ) : Set (SemLoc sig × HIx 1) := {p | (K (F := F)).lev (T d, p.1) p.2 ≤ 8 * n}

/-- What the core owes with `n` calls done, its recorded waits bounded. -/
def owesTc (d : Dev nD) (n : ℕ) : sProp 𝕄 :=
  iprop(∃ W, ⌜(K (F := F)).WBelow (T d) W (8 * n)⌝ ∗ owes (T d) ((K (F := F)).Otc d n) W)

abbrev adm : (p : Fin 2) → (pcfgs (F := F) p).Adm := fun q => (cfgs q).toPCfg_adm

/-- The level facts a region needs while the core owes the calls from `n` on: a staging cell's waits sit at level 0,
    every debt above. -/
theorem levelCut (n : ℕ) (p : Fin 2) :
    LevelCut (nD := nD) (τ := τ) (pcfgs (F := F)) adm none (K (F := F)).L (K (F := F)).lev p (fun d => (K (F := F)).Otc d n) (fun _ => 0) where
  hι _ _ _ := Finset.mem_univ _
  hιb _ _ _ := le_of_eq rfl
  hD d g i h := by
    exact ⟨Finset.mem_univ _, lt_of_lt_of_le (Nat.succ_pos _) ((K (F := F)).lev_of_Otc_pos h)⟩

variable (pdats : (p : Fin 2) → (c : Dev nD) → Dat τ (Elt F) (HIx 1) ℕ UU ℕ (pin (pcfgs (F := F)) adm p) c)

/-- Region `p` with `n` calls done, entered with every unscoped buffer at `W d` and left with them at `W' d`, which has
    the region's arrays at their final contents and everything else as it was. -/
def segOf (p : Fin 2) (n : ℕ) (kit : PLaunchFacts₀ (nD := nD) (τ := τ) (pcfgs (F := F)) p) (hK : (pcfgs (F := F) p).pre.K = 0)
    (hbody : ∀ c, BodyObligationLoose (pdats p c) defs₀ 𝒱₀ none Set.univ)
    (howed : ∀ c t, (pdats p c).owed t = (K (F := F)).Otc c n)
    (hrec : ∀ c t, (pdats p c).recorded t = recAt (F := F) c n)
    (hq : ∀ c w, (pdats p c).q w = shareOf (pin (pcfgs (F := F)) adm p).spec w)
    (hin : ∀ c t, t.val = 0 → scopedRest (pin (pcfgs (F := F)) adm p).spec c ⊢ (pdats p c).Φ t)
    (hout : ∀ c t, (pdats p c).Φ t ⊢ scopedRest (pin (pcfgs (F := F)) adm p).spec c)
    (W W' : Dev nD → Valuation τ sig (Elt F))
    (hW : ∀ c w, (pdats p c).arrAt w 0 = W c (Proc.devRef .tc (arrRef (pin (pcfgs (F := F)) adm p).spec w)))
    (hW' : ∀ c w, (pdats p c).arrAt w (pin (pcfgs (F := F)) adm p).N = W' c (Proc.devRef .tc (arrRef (pin (pcfgs (F := F)) adm p).spec w)))
    (hoff : ∀ c (b : Ref sig .tc), b ∉ Finset.univ.image (arrRef (pin (pcfgs (F := F)) adm p).spec) → W' c (Proc.devRef .tc b) = W c (Proc.devRef .tc b)) :
    RegionSeg (pcfgs (F := F)) adm pdats none defs₀ 𝒱₀ (K (F := F)).L (K (F := F)).lev p where
  win := kit.win
  block_pos := kit.block_pos
  stage_whole := kit.stage_whole
  K := PEmpty
  osem k := k.elim
  ho := OwnSemFacts.none _
  hbody := hbody
  hwaits c := cellsWaits_of_cut (pin (pcfgs (F := F)) adm) pdats none p c 0 ((K (F := F)).Otc c n) (howed c)
    ((levelCut n p).hι c) ((levelCut n p).hιb c) ((levelCut n p).hD c)
  pre c := iprop(StableHlo.held (c.tc : Thread nD τ) (ucRefs τ sig) (W c) ∗ owesTc c n)
  post c := iprop(StableHlo.held (c.tc : Thread nD τ) (ucRefs τ sig) (W' c) ∗ owesTc c n)
  X _ := BI.emp
  Y _ := BI.emp
  Z c := unscopedRest (pin (pcfgs (F := F)) adm p).spec c (fun b => W c b)
  hentry c := by
    rw [ownSems0_none, prefHeld_of_none _ hK, ← unscopedBufs_held,
      unscopedBufs_split₀ (pin (pcfgs (F := F)) adm) p kit.win.arr_unscoped c (fun b => W c b),
      (pdats p c).arrBufs_eq_arrays kit.sharedIn kit.arr_whole (fun w _ => hq c w) (fun b => W c b) ((pdats p c).arrAt · 0) (hW c)]
    iintro ⟨⟨⟨Ha, Hr⟩, HO⟩, -, -⟩
    imodintro
    isplitl [Ha]; · iexact Ha
    isplitr; · iempintro
    isplitl [HO]
    · unfold Dat.owesAt owesWithin Dat.bound owesTc
      rw [howed c 0, hrec c 0]
      icases HO with ⟨%Wt, %hWt, HO⟩; iexists Wt
      isplitr
      · ipureintro; exact fun p hp => Or.inl (hWt p hp)
      iexact HO
    isplitr; · iempintro
    iexact Hr
  hin c := (show _ ⊢ scopedRest (pin (pcfgs (F := F)) adm p).spec c from by
    iintro ⟨-, -, Hr⟩; iexact Hr).trans (hin c 0 (Fin.val_zero _))
  hout c := (hout c _).trans (by
    rw [ownSems0_none]
    iintro Hr
    isplitr; · iempintro
    isplitr; · iempintro
    iexact Hr)
  hexit c := by
    have h := unscopedBufs_of_arrays_shared (pcfgs (F := F)) adm (p := p) kit.win kit.sharedIn kit.arr_whole c pdats (fun w _ => hq c w)
      (fun b => W c b) (fun b => W' c b) ((pdats p c).arrAt · (pin (pcfgs (F := F)) adm p).N) (hW' c) (hoff c)
    rw [unscopedBufs_held] at h
    iintro ⟨Ha, HO, -, Hr⟩
    imodintro
    isplitl [Ha Hr]
    · iapply h
      isplitl [Ha]; · iexact Ha
      iexact Hr
    · unfold Dat.owesAt owesWithin Dat.bound owesTc
      rw [howed c (Fin.last _), hrec c (Fin.last _)]
      icases HO with ⟨%Wt, %hWt, HO⟩; iexists Wt
      isplitr
      · ipureintro
        intro q hq
        rcases hWt hq with h | ⟨w, s, rfl⟩
        · exact h
        · exact Nat.zero_le _
      iexact HO

end Cert.KernelIdeal.Work

end
-- ==== Proof.PadI.lean ====
/-
  The first kernel region: the embedding table padded from 100 to 128 lanes, 4000 rows at a time, lane 100 set to one
  and the others of the padding to zero. Here: the body at a point, the region's proof data, and what the padded table
  holds once the region is done.
-/
module

public import proofs.«01_k».proof.Proof.SegI

@[expose] public section

noncomputable section

namespace Cert.KernelIdeal.Work

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline
open TcCoe

variable {F : FTy → Type} [FloatOps F]

local notation "𝕄" => MT nD τ sig (HIx 1) (Elt F) ℕ UU ℕ

theorem off00 : (![0, 0] : Fin 2 → ℕ) = fun _ => 0 := funext fun a => by fin_cases a <;> rfl

/-- The body at a point: whatever the output block held, it ends with the input block padded. -/
theorem pad_kernel [∀ e, Nonempty (Elt F e)] (c : Dev nD) (E : Set ℕ) (i : grid0.Coords)
    (arg1 : Memref sig .tc .vmem S4000x100 .f32) (harg1 : arg1.IsWhole) (arg2 : Memref sig .tc .vmem S4000x128 .f32) (harg2 : arg2.IsWhole)
    (x : Vec F S4000x100 .f32) (Q : PUnit → sProp 𝕄) :
    iprop(owns (c.tc : Thread nD τ) arg1 fullShare x ∗ (∃ d, owns (c.tc : Thread nD τ) arg2 fullShare d)
        ∗ (iprop(owns (c.tc : Thread nD τ) arg1 fullShare x ∗ owns (c.tc : Thread nD τ) arg2 fullShare (k0_pay1 x)) -∗ Q ⟨⟩))
      ⊢ wp frame (wpE defs₀ 𝒱₀ (c.tc : Thread nD τ) none) E (cc0_body i arg1 harg1 arg2 harg2) Q := by
  simp only [cc0_body_eq_skeleton]
  unfold cc0_body_skel owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _
  isplitr
  swap
  · iexact H1
  ipureintro
  refine (View.read_writes_eq_canon _ _ _ (View.cover_of_tiled [(⟨Rect.unit (s := S4000x128) ![0, 0] S4000x128.size inb_S4000x128_S4000x128_0_0, _⟩ : View.Piece (Elt F) S4000x128 .f32)] S4000x128.size (by rfl))).trans ?_
  rw [View.canon_unit_zero off00]
  congr 1
  exact View.ld_unit_zero off00 _ _

variable (W : Dev nD → Valuation τ sig (Elt F)) (n : ℕ)

/-- The rows of the table the region pads at point `t`. -/
def padIn (c : Dev nD) (t : Fin cfg0.N) : Vec F S4000x100 .f32 :=
  ((cfg0.win 0).blk t).view.read (Elt F) (W c (Proc.devRef .tc main_arg1) : S100000x100.Idx → Elt F .f32)

/-- The first region's proof data, entered with the buffers at `W` and `n` SparseCore calls done. -/
def dat0 (c : Dev nD) : Dat τ (Elt F) (HIx 1) ℕ UU ℕ cfg0 c where
  A w := W c (Proc.devRef .tc (arrRef spec0 w))
  after w t := match w with
    | ⟨0, _⟩ => padIn W c t
    | ⟨1, _⟩ => k0_pay1 (padIn W c t)
    | ⟨_ + 2, h⟩ => absurd h (Nat.not_lt.2 (Nat.le_add_left _ _))
  Φ _ := scopedRest spec0 c
  q := shareOf spec0
  owed _ := (K (F := F)).Otc c n
  recorded _ := recAt (F := F) c n

theorem dat0_after0 (c : Dev nD) (t : Fin cfg0.N) : (dat0 W n c).after 0 t = padIn W c t := by dsimp only [dat0]
theorem dat0_after1 (c : Dev nD) (t : Fin cfg0.N) : (dat0 W n c).after 1 t = k0_pay1 (padIn W c t) := by dsimp only [dat0]

theorem dat0_before0 (c : Dev nD) (t : Fin cfg0.N) (d) : (dat0 W n c).before 0 t d = padIn W c t := by
  rw [(dat0 W n c).before_in_eq_fetched 0 rfl (fun _ => rfl) (fun _ _ _ => rfl) (fun t => by rw [dat0_after0]; rfl) t d]
  unfold Dat.fetched Dat.blockOf
  rfl

theorem dat0_body (c : Dev nD) [∀ e, Nonempty (Elt F e)] : BodyObligationLoose (dat0 W n c) defs₀ 𝒱₀ none Set.univ := by
  suffices h : BodyObligation (dat0 W n c) defs₀ 𝒱₀ none Set.univ from h.loose
  intro t
  rw [bigSep_W0, bigSep_W0]
  simp only [dat0_before0, dat0_after0, dat0_after1]
  rw [show (dat0 W n c).Φ t.castSucc = (dat0 W n c).Φ t.succ by dsimp only [dat0],
    show (dat0 W n c).owesAt none t.castSucc = (dat0 W n c).owesAt none t.succ by unfold Dat.owesAt Dat.bound; dsimp only [dat0]]
  iintro ⟨HΦ, Ho, ⟨%d0, H0⟩, ⟨%d1, H1⟩⟩
  iapply (pad_kernel c Set.univ (grid0.coords t) (win0_0.stage (cfg0.slots t 0)) (hstage0_0 _) (win0_1.stage (cfg0.slots t 1)) (hstage0_1 _) (padIn W c t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The table padded: lane 100 one, the other added lanes zero. -/
def padT (fE : S100000x100.Idx → Elt F .f32) : S100000x128.Idx → Elt F .f32 := fun x =>
  if h : (x 1).val < 100 then fE (fun | 0 => x 0 | 1 => ⟨(x 1).val, h⟩)
  else if (x 1).val = 100 then Scalar.ofBits .f32 0x3F800000#32 else Scalar.sitofp .f32 0#32

theorem pad_index : ∀ t : Fin cfg0.N, win0_0.index t = ![t.val, 0] ∧ win0_1.index t = ![t.val, 0] :=
  (by decide +kernel : ∀ t : Fin grid0.N, _)

/-- The padded block at an index: the table's value below lane 100, one at lane 100, zero above. -/
theorem k0_pay1_apply (x : Vec F S4000x100 .f32) (y : S4000x128.Idx) :
    k0_pay1 x y = if h : (y 1).val < 100 then x (fun | 0 => y 0 | 1 => ⟨(y 1).val, h⟩)
      else if (y 1).val = 100 then Scalar.ofBits .f32 0x3F800000#32 else Scalar.sitofp .f32 0#32 := by
  have hlt : (y 1).val < 128 := (y 1).isLt
  have hc : IntOp.cmpi .eq (BitVec.ofNat 32 (y 1).val) 100#32 = BitVec.ofBool (decide ((y 1).val = 100)) :=
    (by decide : ∀ k : Fin 128, IntOp.cmpi .eq (BitVec.ofNat 32 k.val) 100#32 = BitVec.ofBool (decide (k.val = 100))) ⟨(y 1).val, hlt⟩
  unfold k0_pay1
  pointwise
  rw [hc]
  by_cases h : (y 1).val < 100
  · rw [dif_pos h, dif_pos h, decide_eq_false (by omega : ¬ (y 1).val = 100)]
    show x _ = x _
    congr 1; funext a; fin_cases a <;> rfl
  · rw [dif_neg h, dif_neg h]
    by_cases h1 : (y 1).val = 100
    · rw [if_pos h1, decide_eq_true h1]; rfl
    · rw [if_neg h1, decide_eq_false h1]; rfl

/-- After the region the padded table is the table padded. -/
theorem dat0_final (c : Dev nD) : (dat0 W n c).arrAt 1 cfg0.N = padT (W c (Proc.devRef .tc main_arg1)) := by
  refine Dat.arrAt_eq_of_covers _ 1 _ (by decide +kernel) fun t _ y => ?_
  blk_simp
  rw [dat0_after1, k0_pay1_apply]
  obtain ⟨i0, i1⟩ := pad_index t
  have e1 : (((win0_1.blk t).view.emb y 1 : Fin _) : ℕ) = (y 1).val := by blk_simp [i1]
  have e0 : (((win0_1.blk t).view.emb y 0 : Fin _) : ℕ) = t.val * 4000 + (y 0).val := by blk_simp [i1]
  unfold padT
  simp only [e1]
  split
  · unfold padIn
    rw [View.read_apply]
    refine congrArg (W c (Proc.devRef .tc main_arg1) : S100000x100.Idx → Elt F .f32) (funext fun a => ?_)
    fin_cases a
    · exact Fin.ext (by blk_simp [i0, i1])
    · exact Fin.ext (by blk_simp [i0, i1])
  · rfl

end Cert.KernelIdeal.Work

end
-- ==== Proof.StepI.lean ====
/-
  The second kernel region's body at a grid point: four time steps of the forward direction and four of the backward
  one, the cell states carried in scratch memory from point to point.
-/
module

public import proofs.«01_k».proof.Proof.PadI

@[expose] public section

noncomputable section

namespace Cert.KernelIdeal.Work

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline
open TcCoe

variable {F : FTy → Type} [FloatOps F]

local notation "𝕄" => MT nD τ sig (HIx 1) (Elt F) ℕ UU ℕ

/-! ## The cell, the outputs, four steps -/

/-- A direction's state: the hidden rows and the cell rows. -/
abbrev St (F : FTy → Type) : Type := Vec F S1024x128 .bf16 × Vec F S1024x128 .f32

/-- The state before the first step: zeros. -/
def st0 : St F := (k2_pay2 (F := F), k2_pay3 (F := F))

/-- One step of the cell from the rows of one time. -/
def cell (Wc : Vec F S256x512 .bf16) (s : St F) (x : Vec F S1x1024x128 .f32) : St F := (k2_pay8 s.1 s.2 x Wc, k2_pay7 s.1 s.2 x Wc)

/-- A step's forward output rows, and its backward ones. -/
def outF (s : St F) (wo : Vec F S128x20 .bf16) (bo : Vec F S1x20 .f32) : Vec F S1x1024x20 .f32 := k2_pay9 s.1 wo bo
def outB (s : St F) (wo : Vec F S128x20 .bf16) : Vec F S1x1024x20 .f32 := k2_pay14 s.1 (k2_pay13 wo)

/-- The rows of time `j` of a block of four. -/
def xrow (x : Vec F S4x1024x128 .f32) (j : Fin 4) : Vec F S1x1024x128 .f32 := fun y => x (fun | 0 => j | 1 => y 1 | 2 => y 2)

/-- `k` steps from `s` through a block, first to last and last to first. -/
def runF (Wc : Vec F S256x512 .bf16) (x : Vec F S4x1024x128 .f32) (s : St F) : ℕ → St F
  | 0 => s
  | k + 1 => cell Wc (runF Wc x s k) (xrow x ⟨k % 4, Nat.mod_lt _ (by decide)⟩)
def runB (Wc : Vec F S256x512 .bf16) (x : Vec F S4x1024x128 .f32) (s : St F) : ℕ → St F
  | 0 => s
  | k + 1 => cell Wc (runB Wc x s k) (xrow x ⟨3 - k % 4, by omega⟩)

/-- The block of forward outputs, the block of backward outputs. -/
def blkF (Wc : Vec F S256x512 .bf16) (x : Vec F S4x1024x128 .f32) (s : St F) (wo : Vec F S128x20 .bf16) (bo : Vec F S1x20 .f32) : Vec F S4x1024x20 .f32 :=
  fun y => outF (runF Wc x s ((y 0).val + 1)) wo bo (fun | 0 => (0 : Fin 1) | 1 => y 1 | 2 => y 2)
def blkB (Wc : Vec F S256x512 .bf16) (x : Vec F S4x1024x128 .f32) (s : St F) (wo : Vec F S128x20 .bf16) : Vec F S4x1024x20 .f32 :=
  fun y => outB (runB Wc x s (4 - (y 0).val)) wo (fun | 0 => (0 : Fin 1) | 1 => y 1 | 2 => y 2)

/-! ## The body's payloads are the cell and the outputs, at each of the four steps -/

/-- The later steps' payloads are the first step's. -/
theorem pay_fwd (c : FVec F S1024x128 .f32) (h : FVec F S1024x128 .bf16) (x : Vec F S1x1024x128 .f32) (w : Vec F S256x512 .bf16) :
    (k2_pay11 h c x w = k2_pay7 h c x w ∧ k2_pay12 h c x w = k2_pay8 h c x w)
    ∧ (k2_pay16 c h x w = k2_pay7 h c x w ∧ k2_pay17 c h x w = k2_pay8 h c x w)
    ∧ (k2_pay21 c h x w = k2_pay7 h c x w ∧ k2_pay22 c h x w = k2_pay8 h c x w)
    ∧ (k2_pay25 c h x w = k2_pay7 h c x w ∧ k2_pay26 c h x w = k2_pay8 h c x w)
    ∧ (k2_pay29 c h x w = k2_pay7 h c x w ∧ k2_pay30 c h x w = k2_pay8 h c x w)
    ∧ (k2_pay35 c (k2_pay32 w) (k2_pay33 h x) = k2_pay7 h c x w ∧ k2_pay36 c (k2_pay32 w) (k2_pay33 h x) = k2_pay8 h c x w)
    ∧ (k2_pay39 c (k2_pay38 h x w) = k2_pay7 h c x w ∧ k2_pay40 c (k2_pay38 h x w) = k2_pay8 h c x w) :=
  ⟨⟨rfl, rfl⟩, ⟨rfl, rfl⟩, ⟨rfl, rfl⟩, ⟨rfl, rfl⟩, ⟨rfl, rfl⟩, ⟨rfl, rfl⟩, ⟨rfl, rfl⟩⟩

/-- So are the outputs' ones. -/
theorem pay_out (c : FVec F S1024x128 .f32) (h : FVec F S1024x128 .bf16) (x : Vec F S1x1024x128 .f32) (w : Vec F S256x512 .bf16)
    (wo : Vec F S128x20 .bf16) (bo : Vec F S1x20 .f32) :
    k2_pay19 (k2_pay18 c h x w wo bo) = k2_pay9 (k2_pay8 h c x w) wo bo
    ∧ k2_pay27 c h x w wo bo = k2_pay9 (k2_pay8 h c x w) wo bo
    ∧ k2_pay37 c (k2_pay32 w) (k2_pay33 h x) wo bo = k2_pay9 (k2_pay8 h c x w) wo bo
    ∧ k2_pay23 c h x w wo = k2_pay14 (k2_pay8 h c x w) (k2_pay13 wo)
    ∧ k2_pay31 c h x w wo = k2_pay14 (k2_pay8 h c x w) (k2_pay13 wo)
    ∧ k2_pay41 c (k2_pay38 h x w) wo = k2_pay14 (k2_pay8 h c x w) (k2_pay13 wo) :=
  ⟨rfl, rfl, rfl, rfl, rfl, rfl⟩

/-- The states are stored as they are. -/
theorem pay_st :
    (∀ h : FVec F S1024x128 .bf16, k2_pay42 h = h) ∧ (∀ c : FVec F S1024x128 .f32, k2_pay43 c = c) ∧ (∀ c : FVec F S1024x128 .f32, k2_pay1 c = c)
    ∧ ∀ (c : FVec F S1024x128 .f32) (g : FVec F S1024x512 .f32), k2_pay44 c g = k2_pay40 c g :=
  ⟨fun _ => shapeCast_self _ _, fun _ => shapeCast_self _ _, fun _ => shapeCast_self _ _, fun _ _ => shapeCast_self _ _⟩

/-- A row of a block, read. -/
theorem ld_row (x : Vec F S4x1024x128 .f32) (j : Fin 4) (inb) :
    View.ld (Val := Elt F) x (Rect.unit (s := S4x1024x128) ![j.val, 0, 0] S1x1024x128.size inb) = xrow x j := by
  funext y
  refine congrArg x (funext fun a => ?_)
  have h0 : (y 0).val = 0 := Nat.lt_one_iff.mp (y 0).isLt
  fin_cases a
  · exact Fin.ext (by show j.val + 1 * (y 0).val = j.val; omega)
  · exact Fin.ext (by show 0 + 1 * (y 1).val = (y 1).val; omega)
  · exact Fin.ext (by show 0 + 1 * (y 2).val = (y 2).val; omega)

/-- Row `j` of a block's values, as a piece stored. -/
def slab (G : Vec F S4x1024x20 .f32) (j : Fin 4) : Vec F S1x1024x20 .f32 := fun y => G (fun | 0 => j | 1 => y 1 | 2 => y 2)

theorem slab_emb (G : Vec F S4x1024x20 .f32) (j : Fin 4) (inb) (y : S1x1024x20.Idx) :
    slab G j y = G ((Rect.unit (s := S4x1024x20) ![j.val, 0, 0] S1x1024x20.size inb).emb y) := by
  refine congrArg G (funext fun a => ?_)
  have h0 : (y 0).val = 0 := Nat.lt_one_iff.mp (y 0).isLt
  fin_cases a
  · exact Fin.ext (by show j.val = j.val + 1 * (y 0).val; omega)
  · exact Fin.ext (by show (y 1).val = 0 + 1 * (y 1).val; omega)
  · exact Fin.ext (by show (y 2).val = 0 + 1 * (y 2).val; omega)

/-- Stores that tile the block row by row with the values of one function leave that function. -/
theorem read_pieces [∀ e, Nonempty (Elt F e)] (v : View sig .tc .vmem S4x1024x20 .f32) (f : v.ty.Contents (Elt F)) (G : Vec F S4x1024x20 .f32)
    (L : List (View.Piece (Elt F) S4x1024x20 .f32)) (hc : View.Piece.tiled L S1x1024x20.size = true)
    (hp : ∀ p ∈ L, ∀ x : p.1.shape.Idx, p.2 x = G (p.1.emb x)) : v.read (Elt F) (v.writes (Elt F) f L) = G :=
  (View.read_writes_eq_canon _ _ _ (View.cover_of_tiled L _ hc)).trans
    (funext fun y => View.canon_apply_of_pieces G L hp y (View.cover_of_tiled L _ hc y))

/-- Four rows stored make the block. -/
theorem read_slabs [∀ e, Nonempty (Elt F e)] (v : View sig .tc .vmem S4x1024x20 .f32) (f : v.ty.Contents (Elt F)) (G : Vec F S4x1024x20 .f32)
    (i3 i2 i1 i0) :
    v.read (Elt F) (v.writes (Elt F) f
      [⟨Rect.unit (s := S4x1024x20) ![3, 0, 0] S1x1024x20.size i3, slab G 3⟩, ⟨Rect.unit (s := S4x1024x20) ![2, 0, 0] S1x1024x20.size i2, slab G 2⟩,
       ⟨Rect.unit (s := S4x1024x20) ![1, 0, 0] S1x1024x20.size i1, slab G 1⟩, ⟨Rect.unit (s := S4x1024x20) ![0, 0, 0] S1x1024x20.size i0, slab G 0⟩]) = G
    ∧ v.read (Elt F) (v.writes (Elt F) f
      [⟨Rect.unit (s := S4x1024x20) ![0, 0, 0] S1x1024x20.size i0, slab G 0⟩, ⟨Rect.unit (s := S4x1024x20) ![1, 0, 0] S1x1024x20.size i1, slab G 1⟩,
       ⟨Rect.unit (s := S4x1024x20) ![2, 0, 0] S1x1024x20.size i2, slab G 2⟩, ⟨Rect.unit (s := S4x1024x20) ![3, 0, 0] S1x1024x20.size i3, slab G 3⟩]) = G := by
  constructor <;>
  · refine read_pieces v f G _ (by rfl) ?_
    simp only [List.forall_mem_cons, List.not_mem_nil, false_imp_iff, implies_true, and_true]
    exact ⟨slab_emb G _ _, slab_emb G _ _, slab_emb G _ _, slab_emb G _ _⟩

theorem slab_blkF (Wc : Vec F S256x512 .bf16) (x : Vec F S4x1024x128 .f32) (s : St F) (wo : Vec F S128x20 .bf16) (bo : Vec F S1x20 .f32) (j : Fin 4) :
    slab (blkF Wc x s wo bo) j = outF (runF Wc x s (j.val + 1)) wo bo := by
  funext y
  refine congrArg (outF (runF Wc x s (j.val + 1)) wo bo) (funext fun a => ?_)
  fin_cases a
  · exact Subsingleton.elim (α := Fin 1) _ _
  · rfl
  · rfl

theorem slab_blkB (Wc : Vec F S256x512 .bf16) (x : Vec F S4x1024x128 .f32) (s : St F) (wo : Vec F S128x20 .bf16) (j : Fin 4) :
    slab (blkB Wc x s wo) j = outB (runB Wc x s (4 - j.val)) wo := by
  funext y
  refine congrArg (outB (runB Wc x s (4 - j.val)) wo) (funext fun a => ?_)
  fin_cases a
  · exact Subsingleton.elim (α := Fin 1) _ _
  · rfl
  · rfl

/-- One store of a whole buffer leaves its payload. -/
theorem read_whole [∀ e, Nonempty (Elt F e)] {S : Shape} {e : EltTy} (v : View sig .tc .vmem S e) (f : v.ty.Contents (Elt F)) {off : Fin S.rank → ℕ}
    (h : off = fun _ => 0) (inb) (w : S.Idx → Elt F e) (L : List (View.Piece (Elt F) S e)) :
    v.read (Elt F) (v.writes (Elt F) f (⟨Rect.unit off S.size inb, w⟩ :: L)) = w :=
  (View.read_writes_eq_canon _ _ _ (fun y => ⟨_, List.mem_cons_self, View.mem_set_unit_zero h inb y⟩)).trans (View.canon_cons_unit_zero h inb w L)

/-- Whether the body resets the states: at the first point only. -/
abbrev atFirst (i : grid2.Coords) : Prop :=
  (Scalar.cmpi .ne (Scalar.extui (Scalar.cmpi .eq (BitVec.ofNat 32 (i 0).val) 0#32) : BitVec 32) 0#32 : BitVec 1) = 1#1

/-- The body at a point: the scratch states `sf`, `sb` (zeros at the first point) advance by four steps through the two
    blocks, and the two output blocks hold the steps' outputs. -/
theorem step_kernel [∀ e, Nonempty (Elt F e)] (c : Dev nD) (E : Set ℕ) (i : grid2.Coords)
    (arg1 : Memref sig .tc .vmem S4x1024x128 .f32) (harg1 : arg1.IsWhole) (arg2 : Memref sig .tc .vmem S4x1024x128 .f32) (harg2 : arg2.IsWhole)
    (arg3 : Memref sig .tc .vmem S256x512 .bf16) (harg3 : arg3.IsWhole) (arg4 : Memref sig .tc .vmem S256x512 .bf16) (harg4 : arg4.IsWhole)
    (arg5 : Memref sig .tc .vmem S128x20 .bf16) (harg5 : arg5.IsWhole) (arg6 : Memref sig .tc .vmem S128x20 .bf16) (harg6 : arg6.IsWhole)
    (arg7 : Memref sig .tc .vmem S1x20 .f32) (harg7 : arg7.IsWhole)
    (arg8 : Memref sig .tc .vmem S4x1024x20 .f32) (harg8 : arg8.IsWhole) (arg9 : Memref sig .tc .vmem S4x1024x20 .f32) (harg9 : arg9.IsWhole)
    (arg10 : Memref sig .tc .vmem S1024x128 .bf16) (harg10 : arg10.IsWhole) (arg11 : Memref sig .tc .vmem S1024x128 .f32) (harg11 : arg11.IsWhole)
    (arg12 : Memref sig .tc .vmem S1024x128 .bf16) (harg12 : arg12.IsWhole) (arg13 : Memref sig .tc .vmem S1024x128 .f32) (harg13 : arg13.IsWhole)
    (x1 x2 : Vec F S4x1024x128 .f32) (wf wb : Vec F S256x512 .bf16) (of ob : Vec F S128x20 .bf16) (bo : Vec F S1x20 .f32)
    (sf sb sf' sb' : St F) (hsf : sf' = if atFirst i then st0 else sf) (hsb : sb' = if atFirst i then st0 else sb)
    (Q : PUnit → sProp 𝕄) :
    iprop(owns (c.tc : Thread nD τ) arg1 fullShare x1 ∗ owns (c.tc : Thread nD τ) arg2 fullShare x2
        ∗ owns (c.tc : Thread nD τ) arg3 fullShare wf ∗ owns (c.tc : Thread nD τ) arg4 fullShare wb
        ∗ owns (c.tc : Thread nD τ) arg5 fullShare of ∗ owns (c.tc : Thread nD τ) arg6 fullShare ob
        ∗ owns (c.tc : Thread nD τ) arg7 fullShare bo
        ∗ (∃ d, owns (c.tc : Thread nD τ) arg8 fullShare d) ∗ (∃ d, owns (c.tc : Thread nD τ) arg9 fullShare d)
        ∗ owns (c.tc : Thread nD τ) arg10 fullShare sf.1 ∗ owns (c.tc : Thread nD τ) arg11 fullShare sf.2
        ∗ owns (c.tc : Thread nD τ) arg12 fullShare sb.1 ∗ owns (c.tc : Thread nD τ) arg13 fullShare sb.2
        ∗ (iprop(owns (c.tc : Thread nD τ) arg1 fullShare x1 ∗ owns (c.tc : Thread nD τ) arg2 fullShare x2
            ∗ owns (c.tc : Thread nD τ) arg3 fullShare wf ∗ owns (c.tc : Thread nD τ) arg4 fullShare wb
            ∗ owns (c.tc : Thread nD τ) arg5 fullShare of ∗ owns (c.tc : Thread nD τ) arg6 fullShare ob
            ∗ owns (c.tc : Thread nD τ) arg7 fullShare bo
            ∗ owns (c.tc : Thread nD τ) arg8 fullShare (blkF wf x1 sf' of bo) ∗ owns (c.tc : Thread nD τ) arg9 fullShare (blkB wb x2 sb' ob)
            ∗ owns (c.tc : Thread nD τ) arg10 fullShare (runF wf x1 sf' 4).1 ∗ owns (c.tc : Thread nD τ) arg11 fullShare (runF wf x1 sf' 4).2
            ∗ owns (c.tc : Thread nD τ) arg12 fullShare (runB wb x2 sb' 4).1 ∗ owns (c.tc : Thread nD τ) arg13 fullShare (runB wb x2 sb' 4).2) -∗ Q ⟨⟩))
      ⊢ wp frame (wpE defs₀ 𝒱₀ (c.tc : Thread nD τ) none) E
          (cc2__bilstm_step i arg1 harg1 arg2 harg2 arg3 harg3 arg4 harg4 arg5 harg5 arg6 harg6 arg7 harg7 arg8 harg8 arg9 harg9 arg10 harg10 arg11 harg11 arg12 harg12 arg13 harg13) Q := by
  simp only [cc2__bilstm_step_eq_skeleton]
  unfold cc2__bilstm_step_skel owns
  simp only [k2_part1_eq_skeleton, k2_part2_eq_skeleton, k2_part3_eq_skeleton, k2_part4_eq_skeleton, k2_part5_eq_skeleton, k2_part6_eq_skeleton, k2_part7_eq_skeleton, k2_part8_eq_skeleton]
  unfold k2_part1_skel k2_part2_skel k2_part3_skel k2_part4_skel k2_part5_skel k2_part6_skel k2_part7_skel k2_part8_skel
  obtain ⟨sf1, sf2⟩ := sf
  obtain ⟨sb1, sb2⟩ := sb
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%f11, %hf11, H11⟩, ⟨%f12, %hf12, H12⟩, ⟨%f13, %hf13, H13⟩, Hk⟩
  have e10 : arg1.view.readAt (Elt F) (Rect.unit (s := S4x1024x128) ![0, 0, 0] ![1, 1024, 128] inb_S4x1024x128_S1x1024x128_0_0_0).toLoadRect f1 = xrow x1 0 :=
    (ld_row _ 0 _).trans (congrArg (xrow · 0) hf1)
  have e11 : arg1.view.readAt (Elt F) (Rect.unit (s := S4x1024x128) ![1, 0, 0] ![1, 1024, 128] inb_S4x1024x128_S1x1024x128_1_0_0).toLoadRect f1 = xrow x1 1 :=
    (ld_row _ 1 _).trans (congrArg (xrow · 1) hf1)
  have e12 : arg1.view.readAt (Elt F) (Rect.unit (s := S4x1024x128) ![2, 0, 0] ![1, 1024, 128] inb_S4x1024x128_S1x1024x128_2_0_0).toLoadRect f1 = xrow x1 2 :=
    (ld_row _ 2 _).trans (congrArg (xrow · 2) hf1)
  have e13 : arg1.view.readAt (Elt F) (Rect.unit (s := S4x1024x128) ![3, 0, 0] ![1, 1024, 128] inb_S4x1024x128_S1x1024x128_3_0_0).toLoadRect f1 = xrow x1 3 :=
    (ld_row _ 3 _).trans (congrArg (xrow · 3) hf1)
  have e20 : arg2.view.readAt (Elt F) (Rect.unit (s := S4x1024x128) ![0, 0, 0] ![1, 1024, 128] inb_S4x1024x128_S1x1024x128_0_0_0).toLoadRect f2 = xrow x2 0 :=
    (ld_row _ 0 _).trans (congrArg (xrow · 0) hf2)
  have e21 : arg2.view.readAt (Elt F) (Rect.unit (s := S4x1024x128) ![1, 0, 0] ![1, 1024, 128] inb_S4x1024x128_S1x1024x128_1_0_0).toLoadRect f2 = xrow x2 1 :=
    (ld_row _ 1 _).trans (congrArg (xrow · 1) hf2)
  have e22 : arg2.view.readAt (Elt F) (Rect.unit (s := S4x1024x128) ![2, 0, 0] ![1, 1024, 128] inb_S4x1024x128_S1x1024x128_2_0_0).toLoadRect f2 = xrow x2 2 :=
    (ld_row _ 2 _).trans (congrArg (xrow · 2) hf2)
  have e23 : arg2.view.readAt (Elt F) (Rect.unit (s := S4x1024x128) ![3, 0, 0] ![1, 1024, 128] inb_S4x1024x128_S1x1024x128_3_0_0).toLoadRect f2 = xrow x2 3 :=
    (ld_row _ 3 _).trans (congrArg (xrow · 3) hf2)
  have e3 : arg3.view.readAt (Elt F) (Rect.unit (s := S256x512) ![0, 0] ![256, 512] inb_S256x512_S256x512_0_0).toLoadRect f3 = wf :=
    (View.ld_unit_zero (S := S256x512) off00 _ _).trans hf3
  have e4 : arg4.view.readAt (Elt F) (Rect.unit (s := S256x512) ![0, 0] ![256, 512] inb_S256x512_S256x512_0_0).toLoadRect f4 = wb :=
    (View.ld_unit_zero (S := S256x512) off00 _ _).trans hf4
  have e5 : arg5.view.readAt (Elt F) (Rect.unit (s := S128x20) ![0, 0] ![128, 20] inb_S128x20_S128x20_0_0).toLoadRect f5 = of :=
    (View.ld_unit_zero (S := S128x20) off00 _ _).trans hf5
  have e6 : arg6.view.readAt (Elt F) (Rect.unit (s := S128x20) ![0, 0] ![128, 20] inb_S128x20_S128x20_0_0).toLoadRect f6 = ob :=
    (View.ld_unit_zero (S := S128x20) off00 _ _).trans hf6
  have e7 : arg7.view.readAt (Elt F) (Rect.unit (s := S1x20) ![0, 0] ![1, 20] inb_S1x20_S1x20_0_0).toLoadRect f7 = bo :=
    (View.ld_unit_zero (S := S1x20) off00 _ _).trans hf7
  by_cases h : atFirst i
  rw [if_pos h] at hsf hsb
  subst hsf hsb
  sl_exec
  sl_step
  have e10 : step_kernel.sl.v3 arg10 = (st0 (F := F)).1 := View.readCov_unit_zero _ off00 _ _
  have e11 : step_kernel.sl.v4 arg11 = (st0 (F := F)).2 := View.readCov_unit_zero _ off00 _ _
  have e12 : step_kernel.sl.v5 arg12 = (st0 (F := F)).1 := View.readCov_unit_zero _ off00 _ _
  have e13 : step_kernel.sl.v6 arg13 = (st0 (F := F)).2 := View.readCov_unit_zero _ off00 _ _
  swap
  rw [if_neg h] at hsf hsb
  subst hsf hsb
  have e10 : arg10.view.readAt (Elt F) (Rect.unit (s := S1024x128) ![0, 0] ![1024, 128] inb_S1024x128_S1024x128_0_0).toLoadRect f10 = sf1 :=
    (View.ld_unit_zero (S := S1024x128) off00 _ _).trans hf10
  have e11 : arg11.view.readAt (Elt F) (Rect.unit (s := S1024x128) ![0, 0] ![1024, 128] inb_S1024x128_S1024x128_0_0).toLoadRect f11 = sf2 :=
    (View.ld_unit_zero (S := S1024x128) off00 _ _).trans hf11
  have e12 : arg12.view.readAt (Elt F) (Rect.unit (s := S1024x128) ![0, 0] ![1024, 128] inb_S1024x128_S1024x128_0_0).toLoadRect f12 = sb1 :=
    (View.ld_unit_zero (S := S1024x128) off00 _ _).trans hf12
  have e13 : arg13.view.readAt (Elt F) (Rect.unit (s := S1024x128) ![0, 0] ![1024, 128] inb_S1024x128_S1024x128_0_0).toLoadRect f13 = sb2 :=
    (View.ld_unit_zero (S := S1024x128) off00 _ _).trans hf13
  sl_exec
  sl_step
  all_goals dsimp only
  all_goals
    iapply Hk
    isplitl [H1]
    · iexists f1; isplitr; · ipureintro; exact hf1
      iexact H1
    isplitl [H2]
    · iexists f2; isplitr; · ipureintro; exact hf2
      iexact H2
    isplitl [H3]
    · iexists f3; isplitr; · ipureintro; exact hf3
      iexact H3
    isplitl [H4]
    · iexists f4; isplitr; · ipureintro; exact hf4
      iexact H4
    isplitl [H5]
    · iexists f5; isplitr; · ipureintro; exact hf5
      iexact H5
    isplitl [H6]
    · iexists f6; isplitr; · ipureintro; exact hf6
      iexact H6
    isplitl [H7]
    · iexists f7; isplitr; · ipureintro; exact hf7
      iexact H7
    isplitl [H8]
    · iexists _; isplitr; swap
      · iexact H8
      ipureintro
      refine Eq.trans ?_ (read_slabs arg8.view f8 (blkF wf x1 _ of bo) inb_S4x1024x20_S1x1024x20_3_0_0 inb_S4x1024x20_S1x1024x20_2_0_0 inb_S4x1024x20_S1x1024x20_1_0_0 inb_S4x1024x20_S1x1024x20_0_0_0).1
      simp only [slab_blkF, slab_blkB, e10, e11, e12, e13, e10, e11, e12, e13, e20, e21, e22, e23, e3, e4, e5, e6, e7, pay_fwd, pay_out, pay_st]
      rfl
    isplitl [H9]
    · iexists _; isplitr; swap
      · iexact H9
      ipureintro
      refine Eq.trans ?_ (read_slabs arg9.view f9 (blkB wb x2 _ ob) inb_S4x1024x20_S1x1024x20_3_0_0 inb_S4x1024x20_S1x1024x20_2_0_0 inb_S4x1024x20_S1x1024x20_1_0_0 inb_S4x1024x20_S1x1024x20_0_0_0).2
      simp only [slab_blkF, slab_blkB, e10, e11, e12, e13, e10, e11, e12, e13, e20, e21, e22, e23, e3, e4, e5, e6, e7, pay_fwd, pay_out, pay_st]
      rfl
    isplitl [H10]
    · iexists _; isplitr; swap
      · iexact H10
      ipureintro
      refine (read_whole arg10.view f10 (S := S1024x128) off00 _ _ _).trans ?_
      simp only [e10, e11, e12, e13, e10, e11, e12, e13, e20, e21, e22, e23, e3, e4, e5, e6, e7, pay_fwd, pay_out, pay_st]
      rfl
    isplitl [H11]
    · iexists _; isplitr; swap
      · iexact H11
      ipureintro
      refine (read_whole arg11.view f11 (S := S1024x128) off00 _ _ _).trans ?_
      simp only [e10, e11, e12, e13, e10, e11, e12, e13, e20, e21, e22, e23, e3, e4, e5, e6, e7, pay_fwd, pay_out, pay_st]
      rfl
    isplitl [H12]
    · iexists _; isplitr; swap
      · iexact H12
      ipureintro
      refine (read_whole arg12.view f12 (S := S1024x128) off00 _ _ _).trans ?_
      simp only [e10, e11, e12, e13, e10, e11, e12, e13, e20, e21, e22, e23, e3, e4, e5, e6, e7, pay_fwd, pay_out, pay_st]
      rfl
    · iexists _; isplitr; swap
      · iexact H13
      ipureintro
      refine (read_whole arg13.view f13 (S := S1024x128) off00 _ _ _).trans ?_
      simp only [e10, e11, e12, e13, e10, e11, e12, e13, e20, e21, e22, e23, e3, e4, e5, e6, e7, pay_fwd, pay_out, pay_st]
      rfl

end Cert.KernelIdeal.Work

end
-- ==== Proof.BilstmI.lean ====
/-
  The second kernel region: the two directions of the recurrence over the gathered rows, four steps a grid point; what
  the two output arrays hold after it.
-/
module

public import proofs.«01_k».proof.Proof.StepI

@[expose] public section

set_option maxRecDepth 16384

noncomputable section

namespace Cert.KernelIdeal.Work

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline
open TcCoe

variable {F : FTy → Type} [FloatOps F]

local notation "𝕄" => MT nD τ sig (HIx 1) (Elt F) ℕ UU ℕ

/-! ## The recurrence over all the times -/

/-- The rows of time `n`. -/
def xAt (X : Vec F S200x1024x128 .f32) (n : ℕ) : Vec F S1x1024x128 .f32 :=
  fun y => X (fun | 0 => ⟨n % 200, Nat.mod_lt _ (by decide)⟩ | 1 => y 1 | 2 => y 2)

/-- The forward state before time `n`. -/
def fSt (Wc : Vec F S256x512 .bf16) (X : Vec F S200x1024x128 .f32) : ℕ → St F
  | 0 => st0
  | n + 1 => cell Wc (fSt Wc X n) (xAt X n)

/-- The backward state after `n` steps from the last time. -/
def bSt (Wc : Vec F S256x512 .bf16) (X : Vec F S200x1024x128 .f32) : ℕ → St F
  | 0 => st0
  | n + 1 => cell Wc (bSt Wc X n) (xAt X (199 - n))

theorem runF_fSt (Wc : Vec F S256x512 .bf16) (X : Vec F S200x1024x128 .f32) (x : Vec F S4x1024x128 .f32) (t : ℕ)
    (hx : ∀ j : Fin 4, xrow x j = xAt X (4 * t + j.val)) : ∀ k ≤ 4, runF Wc x (fSt Wc X (4 * t)) k = fSt Wc X (4 * t + k)
  | 0, _ => rfl
  | k + 1, h => by
    have e : k % 4 = k := Nat.mod_eq_of_lt (by omega)
    show cell Wc (runF Wc x (fSt Wc X (4 * t)) k) _ = cell Wc (fSt Wc X (4 * t + k)) _
    rw [runF_fSt Wc X x t hx k (by omega), hx]
    show cell Wc _ (xAt X (4 * t + k % 4)) = _
    rw [e]; rfl

theorem runB_bSt (Wc : Vec F S256x512 .bf16) (X : Vec F S200x1024x128 .f32) (x : Vec F S4x1024x128 .f32) (t : ℕ) (ht : t < 50)
    (hx : ∀ j : Fin 4, xrow x j = xAt X (4 * (49 - t) + j.val)) : ∀ k ≤ 4, runB Wc x (bSt Wc X (4 * t)) k = bSt Wc X (4 * t + k)
  | 0, _ => rfl
  | k + 1, h => by
    have e : 4 * (49 - t) + (3 - k % 4) = 199 - (4 * t + k) := by omega
    show cell Wc (runB Wc x (bSt Wc X (4 * t)) k) _ = cell Wc (bSt Wc X (4 * t + k)) _
    rw [runB_bSt Wc X x t ht hx k (by omega), hx]
    show cell Wc _ (xAt X (4 * (49 - t) + (3 - k % 4))) = _
    rw [e]; rfl

/-- The forward output rows at every time, and the backward ones. -/
def outsF (Wc : Vec F S256x512 .bf16) (X : Vec F S200x1024x128 .f32) (wo : Vec F S128x20 .bf16) (bo : Vec F S1x20 .f32) : Vec F S200x1024x20 .f32 :=
  fun y => outF (fSt Wc X ((y 0).val + 1)) wo bo (fun | 0 => (0 : Fin 1) | 1 => y 1 | 2 => y 2)
def outsB (Wc : Vec F S256x512 .bf16) (X : Vec F S200x1024x128 .f32) (wo : Vec F S128x20 .bf16) : Vec F S200x1024x20 .f32 :=
  fun y => outB (bSt Wc X (200 - (y 0).val)) wo (fun | 0 => (0 : Fin 1) | 1 => y 1 | 2 => y 2)

/-! ## The region's data -/

variable (W : Dev nD → Valuation τ sig (Elt F)) (n : ℕ)

/-- The gathered rows, the two directions' weights, the output weights and bias, as the region is entered. -/
abbrev aX (c : Dev nD) : Vec F S200x1024x128 .f32 := W c (Proc.devRef .tc main_v4)
abbrev aWf (c : Dev nD) : Vec F S256x512 .bf16 := W c (Proc.devRef .tc main_v24)
abbrev aWb (c : Dev nD) : Vec F S256x512 .bf16 := W c (Proc.devRef .tc main_v36)
abbrev aOf (c : Dev nD) : Vec F S128x20 .bf16 := W c (Proc.devRef .tc main_v41)
abbrev aOb (c : Dev nD) : Vec F S128x20 .bf16 := W c (Proc.devRef .tc main_v46)
abbrev aBo (c : Dev nD) : Vec F S1x20 .f32 := W c (Proc.devRef .tc main_v47)

/-- The blocks of rows the two directions read at point `t`. -/
def xF (c : Dev nD) (t : Fin cfg2.N) : Vec F S4x1024x128 .f32 := ((cfg2.win 0).blk t).view.read (Elt F) (aX W c)
def xB (c : Dev nD) (t : Fin cfg2.N) : Vec F S4x1024x128 .f32 := ((cfg2.win 1).blk t).view.read (Elt F) (aX W c)

/-- The scratch memory before point `t`: from the second point on, the two directions' states after `4 t` steps; the
    first region's staging buffers at any contents. -/
def scr2 (c : Dev nD) (t : ℕ) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ ∃ sf sb : St F, ⌜t ≠ 0 → sf = fSt (aWf W c) (aX W c) (4 * t) ∧ sb = bSt (aWb W c) (aX W c) (4 * t)⌝
      ∗ owns (c.tc : Thread nD τ) (Memref.whole cc2_scratch0) fullShare sf.1 ∗ owns (c.tc : Thread nD τ) (Memref.whole cc2_scratch1) fullShare sf.2
      ∗ owns (c.tc : Thread nD τ) (Memref.whole cc2_scratch2) fullShare sb.1 ∗ owns (c.tc : Thread nD τ) (Memref.whole cc2_scratch3) fullShare sb.2)

theorem scr2_in (c : Dev nD) : scopedRest spec2 c ⊢ scr2 W c 0 := by
  rw [scopedRest2_eq]
  unfold scr2
  simp only [owns_whole]
  iintro ⟨H0, H1, H2, H3, ⟨%a, Ha⟩, ⟨%b, Hb⟩, ⟨%d, Hd⟩, ⟨%e, He⟩⟩
  isplitl [H0]; · iexact H0
  isplitl [H1]; · iexact H1
  isplitl [H2]; · iexact H2
  isplitl [H3]; · iexact H3
  iexists (a, b), (d, e)
  isplitr; · ipureintro; exact fun h => absurd rfl h
  isplitl [Ha]; · iexact Ha
  isplitl [Hb]; · iexact Hb
  isplitl [Hd]; · iexact Hd
  iexact He

theorem scr2_out (c : Dev nD) (t : ℕ) : scr2 W c t ⊢ scopedRest spec2 c := by
  rw [scopedRest2_eq]
  unfold scr2
  simp only [owns_whole]
  iintro ⟨H0, H1, H2, H3, %sf, %sb, -, Ha, Hb, Hd, He⟩
  isplitl [H0]; · iexact H0
  isplitl [H1]; · iexact H1
  isplitl [H2]; · iexact H2
  isplitl [H3]; · iexact H3
  isplitl [Ha]; · iexists _; iexact Ha
  isplitl [Hb]; · iexists _; iexact Hb
  isplitl [Hd]; · iexists _; iexact Hd
  iexists _; iexact He

/-- The second region's proof data, entered with the buffers at `W` and `n` SparseCore calls done. -/
def dat2 (c : Dev nD) : Dat τ (Elt F) (HIx 1) ℕ UU ℕ cfg2 c where
  A w := W c (Proc.devRef .tc (arrRef spec2 w))
  after w t := match w with
    | ⟨0, _⟩ => xF W c t
    | ⟨1, _⟩ => xB W c t
    | ⟨2, _⟩ => ((cfg2.win 2).blk t).view.read (Elt F) (aWf W c)
    | ⟨3, _⟩ => ((cfg2.win 3).blk t).view.read (Elt F) (aWb W c)
    | ⟨4, _⟩ => ((cfg2.win 4).blk t).view.read (Elt F) (aOf W c)
    | ⟨5, _⟩ => ((cfg2.win 5).blk t).view.read (Elt F) (aOb W c)
    | ⟨6, _⟩ => ((cfg2.win 6).blk t).view.read (Elt F) (aBo W c)
    | ⟨7, _⟩ => blkF (aWf W c) (xF W c t) (fSt (aWf W c) (aX W c) (4 * t.val)) (aOf W c) (aBo W c)
    | ⟨8, _⟩ => blkB (aWb W c) (xB W c t) (bSt (aWb W c) (aX W c) (4 * t.val)) (aOb W c)
    | ⟨_ + 9, h⟩ => absurd h (Nat.not_lt.2 (Nat.le_add_left _ _))
  Φ t := scr2 W c t.val
  q := shareOf spec2
  owed _ := (K (F := F)).Otc c n
  recorded _ := recAt (F := F) c n

/-! ## Where the blocks lie -/

theorem step_index : ∀ t : Fin cfg2.N, (win2_0.index t = ![t.val, 0, 0] ∧ win2_1.index t = ![49 - t.val, 0, 0]
    ∧ win2_7.index t = ![t.val, 0, 0] ∧ win2_8.index t = ![49 - t.val, 0, 0])
    ∧ win2_2.index t = ![0, 0] ∧ win2_3.index t = ![0, 0] ∧ win2_4.index t = ![0, 0] ∧ win2_5.index t = ![0, 0] ∧ win2_6.index t = ![0, 0] :=
  (by decide +kernel : ∀ t : Fin grid2.N, _)

theorem atFirst_iff : ∀ t : Fin cfg2.N, atFirst (grid2.coords t) ↔ t.val = 0 :=
  (by decide +kernel : ∀ t : Fin grid2.N, _)

theorem xrow_xF (c : Dev nD) (t : Fin cfg2.N) (j : Fin 4) : xrow (xF W c t) j = xAt (aX W c) (4 * t.val + j.val) := by
  obtain ⟨⟨i0, _, _, _⟩, _⟩ := step_index t
  have ht : t.val < 50 := t.isLt
  funext y
  unfold xrow xF xAt
  rw [View.read_apply]
  refine congrArg (aX W c) (funext fun a => ?_)
  fin_cases a
  · refine Fin.ext ?_
    show _ = (4 * t.val + j.val) % 200
    rw [Nat.mod_eq_of_lt (by omega)]
    blk_simp [i0]
    omega
  · exact Fin.ext (by blk_simp [i0])
  · exact Fin.ext (by blk_simp [i0])

theorem xrow_xB (c : Dev nD) (t : Fin cfg2.N) (j : Fin 4) : xrow (xB W c t) j = xAt (aX W c) (4 * (49 - t.val) + j.val) := by
  obtain ⟨⟨_, i0, _, _⟩, _⟩ := step_index t
  have ht : t.val < 50 := t.isLt
  funext y
  unfold xrow xB xAt
  rw [View.read_apply]
  refine congrArg (aX W c) (funext fun a => ?_)
  fin_cases a
  · refine Fin.ext ?_
    show _ = (4 * (49 - t.val) + j.val) % 200
    rw [Nat.mod_eq_of_lt (by omega)]
    blk_simp [i0]
    omega
  · exact Fin.ext (by blk_simp [i0])
  · exact Fin.ext (by blk_simp [i0])

theorem blk2_whole (c : Dev nD) (t : Fin cfg2.N) : ((cfg2.win 2).blk t).view.read (Elt F) (aWf W c) = aWf W c := by
  obtain ⟨_, i0, _, _, _, _⟩ := step_index t
  funext y
  rw [View.read_apply]
  refine congrArg (aWf W c) (funext fun a => ?_)
  fin_cases a <;> exact Fin.ext (by blk_simp [i0])

theorem blk3_whole (c : Dev nD) (t : Fin cfg2.N) : ((cfg2.win 3).blk t).view.read (Elt F) (aWb W c) = aWb W c := by
  obtain ⟨_, _, i0, _, _, _⟩ := step_index t
  funext y
  rw [View.read_apply]
  refine congrArg (aWb W c) (funext fun a => ?_)
  fin_cases a <;> exact Fin.ext (by blk_simp [i0])

theorem blk4_whole (c : Dev nD) (t : Fin cfg2.N) : ((cfg2.win 4).blk t).view.read (Elt F) (aOf W c) = aOf W c := by
  obtain ⟨_, _, _, i0, _, _⟩ := step_index t
  funext y
  rw [View.read_apply]
  refine congrArg (aOf W c) (funext fun a => ?_)
  fin_cases a <;> exact Fin.ext (by blk_simp [i0])

theorem blk5_whole (c : Dev nD) (t : Fin cfg2.N) : ((cfg2.win 5).blk t).view.read (Elt F) (aOb W c) = aOb W c := by
  obtain ⟨_, _, _, _, i0, _⟩ := step_index t
  funext y
  rw [View.read_apply]
  refine congrArg (aOb W c) (funext fun a => ?_)
  fin_cases a <;> exact Fin.ext (by blk_simp [i0])

theorem blk6_whole (c : Dev nD) (t : Fin cfg2.N) : ((cfg2.win 6).blk t).view.read (Elt F) (aBo W c) = aBo W c := by
  obtain ⟨_, _, _, _, _, i0⟩ := step_index t
  funext y
  rw [View.read_apply]
  refine congrArg (aBo W c) (funext fun a => ?_)
  fin_cases a <;> exact Fin.ext (by blk_simp [i0])

/-! ## The body at a point -/

theorem dat2_after0 (c : Dev nD) (t : Fin cfg2.N) : (dat2 W n c).after 0 t = xF W c t := by dsimp only [dat2]
theorem dat2_after1 (c : Dev nD) (t : Fin cfg2.N) : (dat2 W n c).after 1 t = xB W c t := by dsimp only [dat2]
theorem dat2_after2 (c : Dev nD) (t : Fin cfg2.N) : (dat2 W n c).after 2 t = aWf W c := by dsimp only [dat2]; exact blk2_whole W c t
theorem dat2_after3 (c : Dev nD) (t : Fin cfg2.N) : (dat2 W n c).after 3 t = aWb W c := by dsimp only [dat2]; exact blk3_whole W c t
theorem dat2_after4 (c : Dev nD) (t : Fin cfg2.N) : (dat2 W n c).after 4 t = aOf W c := by dsimp only [dat2]; exact blk4_whole W c t
theorem dat2_after5 (c : Dev nD) (t : Fin cfg2.N) : (dat2 W n c).after 5 t = aOb W c := by dsimp only [dat2]; exact blk5_whole W c t
theorem dat2_after6 (c : Dev nD) (t : Fin cfg2.N) : (dat2 W n c).after 6 t = aBo W c := by dsimp only [dat2]; exact blk6_whole W c t
theorem dat2_after7 (c : Dev nD) (t : Fin cfg2.N) : (dat2 W n c).after 7 t = blkF (aWf W c) (xF W c t) (fSt (aWf W c) (aX W c) (4 * t.val)) (aOf W c) (aBo W c) := by dsimp only [dat2]
theorem dat2_after8 (c : Dev nD) (t : Fin cfg2.N) : (dat2 W n c).after 8 t = blkB (aWb W c) (xB W c t) (bSt (aWb W c) (aX W c) (4 * t.val)) (aOb W c) := by dsimp only [dat2]

theorem dat2_before0 (c : Dev nD) (t : Fin cfg2.N) (d) : (dat2 W n c).before 0 t d = xF W c t := by
  rw [(dat2 W n c).before_in_eq_fetched 0 rfl (fun _ => rfl) (fun _ _ _ => rfl) (fun t => by rw [dat2_after0]; rfl) t d]
  unfold Dat.fetched Dat.blockOf
  rfl

theorem dat2_before1 (c : Dev nD) (t : Fin cfg2.N) (d) : (dat2 W n c).before 1 t d = xB W c t := by
  rw [(dat2 W n c).before_in_eq_fetched 1 rfl (fun _ => rfl) (fun _ _ _ => rfl) (fun t => by rw [dat2_after1]; rfl) t d]
  unfold Dat.fetched Dat.blockOf
  rfl

theorem dat2_before2 (c : Dev nD) (t : Fin cfg2.N) (d) : (dat2 W n c).before 2 t d = aWf W c := by
  rw [(dat2 W n c).before_in_eq_fetched 2 rfl (fun _ => rfl) (fun _ _ _ => rfl) (fun t => by rw [dat2_after2]; exact (blk2_whole W c t).symm) t d]
  unfold Dat.fetched Dat.blockOf
  exact blk2_whole W c t

theorem dat2_before3 (c : Dev nD) (t : Fin cfg2.N) (d) : (dat2 W n c).before 3 t d = aWb W c := by
  rw [(dat2 W n c).before_in_eq_fetched 3 rfl (fun _ => rfl) (fun _ _ _ => rfl) (fun t => by rw [dat2_after3]; exact (blk3_whole W c t).symm) t d]
  unfold Dat.fetched Dat.blockOf
  exact blk3_whole W c t

theorem dat2_before4 (c : Dev nD) (t : Fin cfg2.N) (d) : (dat2 W n c).before 4 t d = aOf W c := by
  rw [(dat2 W n c).before_in_eq_fetched 4 rfl (fun _ => rfl) (fun _ _ _ => rfl) (fun t => by rw [dat2_after4]; exact (blk4_whole W c t).symm) t d]
  unfold Dat.fetched Dat.blockOf
  exact blk4_whole W c t

theorem dat2_before5 (c : Dev nD) (t : Fin cfg2.N) (d) : (dat2 W n c).before 5 t d = aOb W c := by
  rw [(dat2 W n c).before_in_eq_fetched 5 rfl (fun _ => rfl) (fun _ _ _ => rfl) (fun t => by rw [dat2_after5]; exact (blk5_whole W c t).symm) t d]
  unfold Dat.fetched Dat.blockOf
  exact blk5_whole W c t

theorem dat2_before6 (c : Dev nD) (t : Fin cfg2.N) (d) : (dat2 W n c).before 6 t d = aBo W c := by
  rw [(dat2 W n c).before_in_eq_fetched 6 rfl (fun _ => rfl) (fun _ _ _ => rfl) (fun t => by rw [dat2_after6]; exact (blk6_whole W c t).symm) t d]
  unfold Dat.fetched Dat.blockOf
  exact blk6_whole W c t

theorem dat2_body (c : Dev nD) [∀ e, Nonempty (Elt F e)] : BodyObligationLoose (dat2 W n c) defs₀ 𝒱₀ none Set.univ := by
  suffices h : BodyObligation (dat2 W n c) defs₀ 𝒱₀ none Set.univ from h.loose
  intro t
  have ht : t.val < 50 := t.isLt
  rw [bigSep_W2, bigSep_W2]
  simp only [dat2_before0, dat2_before1, dat2_before2, dat2_before3, dat2_before4, dat2_before5, dat2_before6, dat2_after0, dat2_after1, dat2_after2, dat2_after3, dat2_after4, dat2_after5, dat2_after6, dat2_after7, dat2_after8]
  rw [show (dat2 W n c).Φ t.castSucc = scr2 W c t.val from rfl, show (dat2 W n c).Φ t.succ = scr2 W c (t.val + 1) from rfl,
    show (dat2 W n c).owesAt none t.castSucc = (dat2 W n c).owesAt none t.succ by unfold Dat.owesAt Dat.bound; dsimp only [dat2]]
  unfold scr2
  iintro ⟨⟨HA, HB, HC, HD, %sf, %sb, %hs, S0, S1, S2, S3⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have hsf : fSt (aWf W c) (aX W c) (4 * t.val) = if atFirst (grid2.coords t) then st0 else sf := by
    by_cases h : t.val = 0
    · rw [if_pos ((atFirst_iff t).2 h), h]; rfl
    · rw [if_neg (fun h' => h ((atFirst_iff t).1 h'))]; exact (hs h).1.symm
  have hsb : bSt (aWb W c) (aX W c) (4 * t.val) = if atFirst (grid2.coords t) then st0 else sb := by
    by_cases h : t.val = 0
    · rw [if_pos ((atFirst_iff t).2 h), h]; rfl
    · rw [if_neg (fun h' => h ((atFirst_iff t).1 h'))]; exact (hs h).2.symm
  iapply (step_kernel c Set.univ (grid2.coords t) (win2_0.stage (cfg2.slots t 0)) (hstage2_0 _) (win2_1.stage (cfg2.slots t 1)) (hstage2_1 _) (win2_2.stage (cfg2.slots t 2)) (hstage2_2 _) (win2_3.stage (cfg2.slots t 3)) (hstage2_3 _) (win2_4.stage (cfg2.slots t 4)) (hstage2_4 _) (win2_5.stage (cfg2.slots t 5)) (hstage2_5 _) (win2_6.stage (cfg2.slots t 6)) (hstage2_6 _) (win2_7.stage (cfg2.slots t 7)) (hstage2_7 _) (win2_8.stage (cfg2.slots t 8)) (hstage2_8 _) (Memref.whole cc2_scratch0) (Memref.isWhole_whole _) (Memref.whole cc2_scratch1) (Memref.isWhole_whole _) (Memref.whole cc2_scratch2) (Memref.isWhole_whole _) (Memref.whole cc2_scratch3) (Memref.isWhole_whole _)
    (xF W c t) (xB W c t) (aWf W c) (aWb W c) (aOf W c) (aOb W c) (aBo W c) sf sb _ _ hsf hsb _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [S0]; · iexact S0
  isplitl [S1]; · iexact S1
  isplitl [S2]; · iexact S2
  isplitl [S3]; · iexact S3
  iintro ⟨H0, H1, H2, H3, H4, H5, H6, H7, H8, S0, S1, S2, S3⟩
  isplitl [HA HB HC HD S0 S1 S2 S3]
  · isplitl [HA]; · iexact HA
    isplitl [HB]; · iexact HB
    isplitl [HC]; · iexact HC
    isplitl [HD]; · iexact HD
    iexists _, _
    isplitr; swap
    · isplitl [S0]; · iexact S0
      isplitl [S1]; · iexact S1
      isplitl [S2]; · iexact S2
      iexact S3
    ipureintro
    exact fun _ => ⟨runF_fSt _ _ _ _ (xrow_xF W c t) 4 (le_refl _), runB_bSt _ _ _ _ ht (xrow_xB W c t) 4 (le_refl _)⟩
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-! ## What the output arrays hold after the region -/

theorem dat2_finalF (c : Dev nD) : (dat2 W n c).arrAt 7 cfg2.N = outsF (aWf W c) (aX W c) (aOf W c) (aBo W c) := by
  refine Dat.arrAt_eq_of_covers _ 7 _ (by decide +kernel) fun t _ y => ?_
  blk_simp
  rw [dat2_after7]
  obtain ⟨⟨_, _, i0, _⟩, _⟩ := step_index t
  have e0 : (((win2_7.blk t).view.emb y 0 : Fin _) : ℕ) = 4 * t.val + (y 0).val := by blk_simp [i0]; omega
  have h4 : (y 0).val < 4 := (y 0).isLt
  unfold blkF outsF
  rw [runF_fSt _ _ _ _ (xrow_xF W c t) _ (by omega), e0]
  refine congrArg (outF _ _ _) (funext fun a => ?_)
  fin_cases a
  · rfl
  · exact Fin.ext (by blk_simp [i0])
  · exact Fin.ext (by blk_simp [i0])

theorem dat2_finalB (c : Dev nD) : (dat2 W n c).arrAt 8 cfg2.N = outsB (aWb W c) (aX W c) (aOb W c) := by
  refine Dat.arrAt_eq_of_covers _ 8 _ (by decide +kernel) fun t _ y => ?_
  blk_simp
  rw [dat2_after8]
  obtain ⟨⟨_, _, _, i0⟩, _⟩ := step_index t
  have ht : t.val < 50 := t.isLt
  have e0 : (((win2_8.blk t).view.emb y 0 : Fin _) : ℕ) = 4 * (49 - t.val) + (y 0).val := by blk_simp [i0]; omega
  have h4 : (y 0).val < 4 := (y 0).isLt
  unfold blkB outsB
  rw [runB_bSt _ _ _ _ ht (xrow_xB W c t) _ (by omega), e0, show 200 - (4 * (49 - t.val) + (y 0).val) = 4 * t.val + (4 - (y 0).val) by omega]
  refine congrArg (outB _ _) (funext fun a => ?_)
  fin_cases a
  · rfl
  · exact Fin.ext (by blk_simp [i0])
  · exact Fin.ext (by blk_simp [i0])

end Cert.KernelIdeal.Work

end
-- ==== Proof.OpsI.lean ====
/-
  @main's host operations as lists, between the regions and the SparseCore call, and @main as the chain of the five
  stretches.
-/
module

public import proofs.«01_k».proof.Proof.TileI
public import Idealize.ShloMosaic.Lib.Pipeline.Regions
public import Idealize.ShloMosaic.Lib.Pipeline.Frame
public import Idealize.ShloMosaic.Lib.StableHlo.Run

@[expose] public section

set_option maxRecDepth 16384

noncomputable section

namespace Cert.KernelIdeal.Work

open Cert.KernelIdeal Cert.KernelIdeal.Gen

open Idealize.ShloMosaic
open Idealize.SL Idealize.SL.Sem
open Idealize.ShloMosaic.Pipeline
open TcCoe

variable {F : FTy → Type} [FloatOps F]

/-- The row numbers, time-major, as one vector. -/
abbrev opsA : List (HloOp τ sig (Elt F)) :=
  [ StableHlo.unary main_arg0 main_v1 ((transpose S200x1024 [1, 0] · transposes_S1024x200_S200x1024_1_0) : (⟨S1024x200, .i32⟩ : BufTy).Contents (Elt F) → (⟨S200x1024, .i32⟩ : BufTy).Contents (Elt F)),
    StableHlo.reshape main_v1 main_v2 (rfl : (.i32 : EltTy) = .i32) shapeCasts_S200x1024_S204800 ]

theorem opsA_sub : (opsA : List (HloOp τ sig (Elt F))).Forall fun op => op.bufs ⊆ StableHlo.tcRefs τ sig :=
  ⟨StableHlo.unary_bufs_sub .., StableHlo.reshape_bufs_sub ..⟩

theorem opsA_fresh : (opsA : List (HloOp τ sig (Elt F))).Forall fun op => op.fresh = ∅ :=
  ⟨rfl, rfl⟩

/-- The gathered rows time-major, the two weight matrices with the bias row and the gates' scales, and the output weights of either direction, halved. -/
abbrev opsB : List (HloOp τ sig (Elt F)) :=
  [ StableHlo.reshape main_v3 main_v4 (rfl : (.f32 : EltTy) = .f32) shapeCasts_S204800x128_S200x1024x128,
    StableHlo.nullary main_cst (constant S_ .f32 0x3F000000#32),
    StableHlo.unary main_cst main_v5 (broadcastInDim S1x128 ![] bcast_S_S1x128 : (⟨S_, .f32⟩ : BufTy).Contents (Elt F) → (⟨S1x128, .f32⟩ : BufTy).Contents (Elt F)),
    StableHlo.nullary main_cst_0 (constant S_ .f32 0x3F000000#32),
    StableHlo.unary main_cst_0 main_v6 (broadcastInDim S1x128 ![] bcast_S_S1x128 : (⟨S_, .f32⟩ : BufTy).Contents (Elt F) → (⟨S1x128, .f32⟩ : BufTy).Contents (Elt F)),
    StableHlo.nullary main_cst_1 (constant S_ .f32 0x3F800000#32),
    StableHlo.unary main_cst_1 main_v7 (broadcastInDim S1x128 ![] bcast_S_S1x128 : (⟨S_, .f32⟩ : BufTy).Contents (Elt F) → (⟨S1x128, .f32⟩ : BufTy).Contents (Elt F)),
    StableHlo.nullary main_cst_2 (constant S_ .f32 0x3F000000#32),
    StableHlo.unary main_cst_2 main_v8 (broadcastInDim S1x128 ![] bcast_S_S1x128 : (⟨S_, .f32⟩ : BufTy).Contents (Elt F) → (⟨S1x128, .f32⟩ : BufTy).Contents (Elt F)),
    StableHlo.unary main_v5 main_v9 (id : (⟨S1x128, .f32⟩ : BufTy).Contents (Elt F) → (⟨S1x128, .f32⟩ : BufTy).Contents (Elt F)),
    StableHlo.unary main_v6 main_v10 (id : (⟨S1x128, .f32⟩ : BufTy).Contents (Elt F) → (⟨S1x128, .f32⟩ : BufTy).Contents (Elt F)),
    StableHlo.unary main_v8 main_v11 (id : (⟨S1x128, .f32⟩ : BufTy).Contents (Elt F) → (⟨S1x128, .f32⟩ : BufTy).Contents (Elt F)),
    StableHlo.nary ![main_v9, main_v10, main_v7, main_v11] main_v12 (fun u => (concatenate S1x512 1 [⟨S1x128, (u 0 : (⟨S1x128, .f32⟩ : BufTy).Contents (Elt F))⟩, ⟨S1x128, (u 1 : (⟨S1x128, .f32⟩ : BufTy).Contents (Elt F))⟩, ⟨S1x128, (u 2 : (⟨S1x128, .f32⟩ : BufTy).Contents (Elt F))⟩, ⟨S1x128, (u 3 : (⟨S1x128, .f32⟩ : BufTy).Contents (Elt F))⟩] concatenates_S1x128_S1x128_S1x128_S1x128_S1x512_d1 : (⟨S1x512, .f32⟩ : BufTy).Contents (Elt F))),
    StableHlo.unary main_arg2 main_v13 ((transpose S100x512 [1, 0] · transposes_S512x100_S100x512_1_0) : (⟨S512x100, .f32⟩ : BufTy).Contents (Elt F) → (⟨S100x512, .f32⟩ : BufTy).Contents (Elt F)),
    StableHlo.nullary main_c (constantI S_ 32 0#32),
    StableHlo.TRef.unary (.of main_c : StableHlo.TRef sig ⟨S_, .i32⟩) main_call0.v0 (sitofp .f32),
    StableHlo.TRef.binary (.of main_v13 : StableHlo.TRef sig ⟨S100x512, .f32⟩) main_call0.v0 main_call0.v1 (fun x v => pad S128x512 ![0, 0] ![28, 0] ![0, 0] x v pads_S100x512_S128x512_0280_000 h_S_),
    StableHlo.binary main_arg4 main_arg5 main_v15 (addf : (⟨S512, .f32⟩ : BufTy).Contents (Elt F) → (⟨S512, .f32⟩ : BufTy).Contents (Elt F) → (⟨S512, .f32⟩ : BufTy).Contents (Elt F)),
    StableHlo.nullary main_c_3 (constantI S_ 32 100#32),
    StableHlo.unary main_c_3 main_v16 (broadcastInDim S1 ![] bcast_S_S1 : (⟨S_, .i32⟩ : BufTy).Contents (Elt F) → (⟨S1, .i32⟩ : BufTy).Contents (Elt F)),
    StableHlo.ternary main_v14 main_v16 main_v15 main_v17 ((fun x i u => Host.scatter scatter_S128x512_S1_S512_0_0_0_0 (fun _ b => b) x i u) : (⟨S128x512, .f32⟩ : BufTy).Contents (Elt F) → (⟨S1, .i32⟩ : BufTy).Contents (Elt F) → (⟨S512, .f32⟩ : BufTy).Contents (Elt F) → (⟨S128x512, .f32⟩ : BufTy).Contents (Elt F)),
    StableHlo.unary main_arg3 main_v18 ((transpose S128x512 [1, 0] · transposes_S512x128_S128x512_1_0) : (⟨S512x128, .f32⟩ : BufTy).Contents (Elt F) → (⟨S128x512, .f32⟩ : BufTy).Contents (Elt F)),
    StableHlo.nullary main_cst_4 (constant S_ .f32 0x3F000000#32),
    StableHlo.unary main_cst_4 main_v19 (broadcastInDim S128x512 ![] bcast_S_S128x512 : (⟨S_, .f32⟩ : BufTy).Contents (Elt F) → (⟨S128x512, .f32⟩ : BufTy).Contents (Elt F)),
    StableHlo.binary main_v19 main_v18 main_v20 (mulf : (⟨S128x512, .f32⟩ : BufTy).Contents (Elt F) → (⟨S128x512, .f32⟩ : BufTy).Contents (Elt F) → (⟨S128x512, .f32⟩ : BufTy).Contents (Elt F)),
    StableHlo.binary main_v17 main_v20 main_v21 ((fun a b => concatenate S256x512 0 [⟨S128x512, a⟩, ⟨S128x512, b⟩] concatenates_S128x512_S128x512_S256x512_d0) : (⟨S128x512, .f32⟩ : BufTy).Contents (Elt F) → (⟨S128x512, .f32⟩ : BufTy).Contents (Elt F) → (⟨S256x512, .f32⟩ : BufTy).Contents (Elt F)),
    StableHlo.unary main_v12 main_v22 (broadcastInDim S256x512 ![0, 1] bcast_S1x512_S256x512_0_1 : (⟨S1x512, .f32⟩ : BufTy).Contents (Elt F) → (⟨S256x512, .f32⟩ : BufTy).Contents (Elt F)),
    StableHlo.binary main_v21 main_v22 main_v23 (mulf : (⟨S256x512, .f32⟩ : BufTy).Contents (Elt F) → (⟨S256x512, .f32⟩ : BufTy).Contents (Elt F) → (⟨S256x512, .f32⟩ : BufTy).Contents (Elt F)),
    StableHlo.unary main_v23 main_v24 ((truncf .bf16 · bitsLt_bf16_f32) : (⟨S256x512, .f32⟩ : BufTy).Contents (Elt F) → (⟨S256x512, .bf16⟩ : BufTy).Contents (Elt F)),
    StableHlo.unary main_arg6 main_v25 ((transpose S100x512 [1, 0] · transposes_S512x100_S100x512_1_0) : (⟨S512x100, .f32⟩ : BufTy).Contents (Elt F) → (⟨S100x512, .f32⟩ : BufTy).Contents (Elt F)),
    StableHlo.nullary main_c_5 (constantI S_ 32 0#32),
    StableHlo.TRef.unary (.of main_c_5 : StableHlo.TRef sig ⟨S_, .i32⟩) main_call1.v0 (sitofp .f32),
    StableHlo.TRef.binary (.of main_v25 : StableHlo.TRef sig ⟨S100x512, .f32⟩) main_call1.v0 main_call1.v1 (fun x v => pad S128x512 ![0, 0] ![28, 0] ![0, 0] x v pads_S100x512_S128x512_0280_000 h_S_),
    StableHlo.binary main_arg8 main_arg9 main_v27 (addf : (⟨S512, .f32⟩ : BufTy).Contents (Elt F) → (⟨S512, .f32⟩ : BufTy).Contents (Elt F) → (⟨S512, .f32⟩ : BufTy).Contents (Elt F)),
    StableHlo.nullary main_c_6 (constantI S_ 32 100#32),
    StableHlo.unary main_c_6 main_v28 (broadcastInDim S1 ![] bcast_S_S1 : (⟨S_, .i32⟩ : BufTy).Contents (Elt F) → (⟨S1, .i32⟩ : BufTy).Contents (Elt F)),
    StableHlo.ternary main_v26 main_v28 main_v27 main_v29 ((fun x i u => Host.scatter scatter_S128x512_S1_S512_0_0_0_0 (fun _ b => b) x i u) : (⟨S128x512, .f32⟩ : BufTy).Contents (Elt F) → (⟨S1, .i32⟩ : BufTy).Contents (Elt F) → (⟨S512, .f32⟩ : BufTy).Contents (Elt F) → (⟨S128x512, .f32⟩ : BufTy).Contents (Elt F)),
    StableHlo.unary main_arg7 main_v30 ((transpose S128x512 [1, 0] · transposes_S512x128_S128x512_1_0) : (⟨S512x128, .f32⟩ : BufTy).Contents (Elt F) → (⟨S128x512, .f32⟩ : BufTy).Contents (Elt F)),
    StableHlo.nullary main_cst_7 (constant S_ .f32 0x3F000000#32),
    StableHlo.unary main_cst_7 main_v31 (broadcastInDim S128x512 ![] bcast_S_S128x512 : (⟨S_, .f32⟩ : BufTy).Contents (Elt F) → (⟨S128x512, .f32⟩ : BufTy).Contents (Elt F)),
    StableHlo.binary main_v31 main_v30 main_v32 (mulf : (⟨S128x512, .f32⟩ : BufTy).Contents (Elt F) → (⟨S128x512, .f32⟩ : BufTy).Contents (Elt F) → (⟨S128x512, .f32⟩ : BufTy).Contents (Elt F)),
    StableHlo.binary main_v29 main_v32 main_v33 ((fun a b => concatenate S256x512 0 [⟨S128x512, a⟩, ⟨S128x512, b⟩] concatenates_S128x512_S128x512_S256x512_d0) : (⟨S128x512, .f32⟩ : BufTy).Contents (Elt F) → (⟨S128x512, .f32⟩ : BufTy).Contents (Elt F) → (⟨S256x512, .f32⟩ : BufTy).Contents (Elt F)),
    StableHlo.unary main_v12 main_v34 (broadcastInDim S256x512 ![0, 1] bcast_S1x512_S256x512_0_1 : (⟨S1x512, .f32⟩ : BufTy).Contents (Elt F) → (⟨S256x512, .f32⟩ : BufTy).Contents (Elt F)),
    StableHlo.binary main_v33 main_v34 main_v35 (mulf : (⟨S256x512, .f32⟩ : BufTy).Contents (Elt F) → (⟨S256x512, .f32⟩ : BufTy).Contents (Elt F) → (⟨S256x512, .f32⟩ : BufTy).Contents (Elt F)),
    StableHlo.unary main_v35 main_v36 ((truncf .bf16 · bitsLt_bf16_f32) : (⟨S256x512, .f32⟩ : BufTy).Contents (Elt F) → (⟨S256x512, .bf16⟩ : BufTy).Contents (Elt F)),
    StableHlo.unary main_arg10 main_v37 ((extractStridedSlice S20x128 ![0, 0] · slices_S20x256_S20x128_0_0) : (⟨S20x256, .f32⟩ : BufTy).Contents (Elt F) → (⟨S20x128, .f32⟩ : BufTy).Contents (Elt F)),
    StableHlo.unary main_v37 main_v38 ((transpose S128x20 [1, 0] · transposes_S20x128_S128x20_1_0) : (⟨S20x128, .f32⟩ : BufTy).Contents (Elt F) → (⟨S128x20, .f32⟩ : BufTy).Contents (Elt F)),
    StableHlo.nullary main_cst_8 (constant S_ .f32 0x3F000000#32),
    StableHlo.unary main_cst_8 main_v39 (broadcastInDim S128x20 ![] bcast_S_S128x20 : (⟨S_, .f32⟩ : BufTy).Contents (Elt F) → (⟨S128x20, .f32⟩ : BufTy).Contents (Elt F)),
    StableHlo.binary main_v39 main_v38 main_v40 (mulf : (⟨S128x20, .f32⟩ : BufTy).Contents (Elt F) → (⟨S128x20, .f32⟩ : BufTy).Contents (Elt F) → (⟨S128x20, .f32⟩ : BufTy).Contents (Elt F)),
    StableHlo.unary main_v40 main_v41 ((truncf .bf16 · bitsLt_bf16_f32) : (⟨S128x20, .f32⟩ : BufTy).Contents (Elt F) → (⟨S128x20, .bf16⟩ : BufTy).Contents (Elt F)),
    StableHlo.unary main_arg10 main_v42 ((extractStridedSlice S20x128 ![0, 128] · slices_S20x256_S20x128_0_128) : (⟨S20x256, .f32⟩ : BufTy).Contents (Elt F) → (⟨S20x128, .f32⟩ : BufTy).Contents (Elt F)),
    StableHlo.unary main_v42 main_v43 ((transpose S128x20 [1, 0] · transposes_S20x128_S128x20_1_0) : (⟨S20x128, .f32⟩ : BufTy).Contents (Elt F) → (⟨S128x20, .f32⟩ : BufTy).Contents (Elt F)),
    StableHlo.nullary main_cst_9 (constant S_ .f32 0x3F000000#32),
    StableHlo.unary main_cst_9 main_v44 (broadcastInDim S128x20 ![] bcast_S_S128x20 : (⟨S_, .f32⟩ : BufTy).Contents (Elt F) → (⟨S128x20, .f32⟩ : BufTy).Contents (Elt F)),
    StableHlo.binary main_v44 main_v43 main_v45 (mulf : (⟨S128x20, .f32⟩ : BufTy).Contents (Elt F) → (⟨S128x20, .f32⟩ : BufTy).Contents (Elt F) → (⟨S128x20, .f32⟩ : BufTy).Contents (Elt F)),
    StableHlo.unary main_v45 main_v46 ((truncf .bf16 · bitsLt_bf16_f32) : (⟨S128x20, .f32⟩ : BufTy).Contents (Elt F) → (⟨S128x20, .bf16⟩ : BufTy).Contents (Elt F)),
    StableHlo.reshape main_arg11 main_v47 (rfl : (.f32 : EltTy) = .f32) shapeCasts_S20_S1x20 ]

theorem opsB_sub : (opsB : List (HloOp τ sig (Elt F))).Forall fun op => op.bufs ⊆ StableHlo.tcRefs τ sig :=
  ⟨StableHlo.reshape_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.nary_bufs_sub .., StableHlo.unary_bufs_sub .., StableHlo.nullary_bufs_sub .., StableHlo.unary_bufs_sub .., StableHlo.binary_bufs_sub .., StableHlo.binary_bufs_sub .., StableHlo.nullary_bufs_sub .., StableHlo.unary_bufs_sub .., StableHlo.ternary_bufs_sub .., StableHlo.unary_bufs_sub .., StableHlo.nullary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.binary_bufs_sub .., StableHlo.nullary_bufs_sub .., StableHlo.unary_bufs_sub .., StableHlo.ternary_bufs_sub .., StableHlo.unary_bufs_sub .., StableHlo.nullary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.unary_bufs_sub .., StableHlo.nullary_bufs_sub .., StableHlo.unary_bufs_sub .., StableHlo.binary_bufs_sub .., StableHlo.unary_bufs_sub .., StableHlo.unary_bufs_sub .., StableHlo.unary_bufs_sub .., StableHlo.nullary_bufs_sub .., StableHlo.unary_bufs_sub .., StableHlo.binary_bufs_sub .., StableHlo.unary_bufs_sub .., StableHlo.reshape_bufs_sub ..⟩

theorem opsB_fresh : (opsB : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The two directions' output rows added, batch-major. -/
abbrev opsC : List (HloOp τ sig (Elt F)) :=
  [ StableHlo.binary main_v48_0 main_v48_1 main_v49 (addf : (⟨S200x1024x20, .f32⟩ : BufTy).Contents (Elt F) → (⟨S200x1024x20, .f32⟩ : BufTy).Contents (Elt F) → (⟨S200x1024x20, .f32⟩ : BufTy).Contents (Elt F)),
    StableHlo.unary main_v49 main_v50 ((transpose S1024x200x20 [1, 0, 2] · transposes_S200x1024x20_S1024x200x20_1_0_2) : (⟨S200x1024x20, .f32⟩ : BufTy).Contents (Elt F) → (⟨S1024x200x20, .f32⟩ : BufTy).Contents (Elt F)) ]

theorem opsC_sub : (opsC : List (HloOp τ sig (Elt F))).Forall fun op => op.bufs ⊆ StableHlo.tcRefs τ sig :=
  ⟨StableHlo.binary_bufs_sub .., StableHlo.unary_bufs_sub ..⟩

theorem opsC_fresh : (opsC : List (HloOp τ sig (Elt F))).Forall fun op => op.fresh = ∅ :=
  ⟨rfl, rfl⟩

theorem main_chain (d : Dev nD) : main (F := F) d = (Pipeline.chain
    [ Prog.lift (.customCall (SparseCore.inner (Pipeline.entry 0)) ()),
      StableHlo.seq opsA,
      sc.run d 0,
      StableHlo.seq opsB,
      Prog.lift (.customCall (SparseCore.inner (Pipeline.entry 1)) ()),
      StableHlo.seq opsC ]) := by
  rewrite [Pipeline.chain_cons, StableHlo.chain_seq_cons, Pipeline.chain_cons, StableHlo.chain_seq_cons, Pipeline.chain_cons, StableHlo.chain_seq_cons]
  chain_rfl

end Cert.KernelIdeal.Work

end
-- ==== Proof.MainI.lean ====
/-
  @main on the TensorCore and the program's run: the table padded by a region, the row numbers made, the SparseCore
  call, the weights prepared, the recurrence by the second region, the two directions added. What every buffer holds is
  carried through as one valuation per stage, so the run's postcondition names each buffer's final contents.
-/
module

public import proofs.«01_k».proof.Proof.TaskI
public import proofs.«01_k».proof.Proof.PadI
public import proofs.«01_k».proof.Proof.BilstmI
public import proofs.«01_k».proof.Proof.OpsI

@[expose] public section

set_option maxRecDepth 16384

noncomputable section

namespace Cert.KernelIdeal.Work

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline
open TcCoe

variable {F : FTy → Type} [FloatOps F]

local notation "𝕄" => MT nD τ sig (HIx 1) (Elt F) ℕ UU ℕ

/-- A TensorCore reference as a device buffer. -/
abbrev dv (b : Ref sig .tc) : DevRef τ sig := Proc.devRef .tc b

/-! ## The valuations, stage by stage -/

section Vals
variable (m : (ℓ : Loc nD τ sig) → Buf (Elt F) ℓ)

/-- At launch. -/
def W0 (d : Dev nD) : Valuation τ sig (Elt F) := fun b => m (d, b)
/-- The table padded. -/
def W1 (d : Dev nD) : Valuation τ sig (Elt F) := Function.update (W0 m d) (dv main_v0) (padT (W0 m d (dv main_arg1)))
/-- The row numbers made. -/
def W2 (d : Dev nD) : Valuation τ sig (Elt F) := StableHlo.after opsA (W1 m d)
/-- The rows gathered. -/
def W3 (d : Dev nD) : Valuation τ sig (Elt F) :=
  Function.update (W2 m d) (dv main_v3) (gRows (W2 m d (dv main_v0)) (W2 m d (dv main_v2)))
/-- The weights prepared. -/
def W4 (d : Dev nD) : Valuation τ sig (Elt F) := StableHlo.after opsB (W3 m d)
/-- The recurrence run, in both directions. -/
def W5 (d : Dev nD) : Valuation τ sig (Elt F) :=
  Function.update (Function.update (W4 m d) (dv main_v48_0) (outsF (aWf (W4 m) d) (aX (W4 m) d) (aOf (W4 m) d) (aBo (W4 m) d)))
    (dv main_v48_1) (outsB (aWb (W4 m) d) (aX (W4 m) d) (aOb (W4 m) d))
/-- The two directions added. -/
def W6 (d : Dev nD) : Valuation τ sig (Elt F) := StableHlo.after opsC (W5 m d)

/-- The two regions' proof data. -/
def pdats : (p : Fin 2) → (c : Dev nD) → Dat τ (Elt F) (HIx 1) ℕ UU ℕ (pin (pcfgs (F := F)) adm p) c := fun p c =>
  match p with
  | 0 => dat0 (W0 m) 0 c
  | 1 => dat2 (W4 m) 1 c

theorem dat0_phi (W : Dev nD → Valuation τ sig (Elt F)) (n : ℕ) (c : Dev nD) (t : Fin (cfg0.N + 1)) :
    (dat0 W n c).Φ t = scopedRest spec0 c := rfl
theorem dat2_phi0 (W : Dev nD → Valuation τ sig (Elt F)) (n : ℕ) (c : Dev nD) (t : Fin (cfg2.N + 1)) (h : t.val = 0) :
    scopedRest spec2 c ⊢ (dat2 W n c).Φ t := by
  rw [show (dat2 W n c).Φ t = scr2 W c t.val from rfl, h]; exact scr2_in W c

theorem W1_of (d : Dev nD) (b : Ref sig .tc) (h : dv b ≠ dv main_v0) : W1 m d (dv b) = W0 m d (dv b) :=
  Function.update_of_ne h _ _
theorem W3_of (d : Dev nD) (b : DevRef τ sig) (h : b ≠ dv main_v3) : W3 m d b = W2 m d b :=
  Function.update_of_ne h _ _

theorem W5_of (d : Dev nD) (b : Ref sig .tc) (h : dv b ≠ dv main_v48_0) (h' : dv b ≠ dv main_v48_1) : W5 m d (dv b) = W4 m d (dv b) :=
  (Function.update_of_ne h' _ _).trans (Function.update_of_ne h _ _)
theorem W5_F (d : Dev nD) : W5 m d (dv main_v48_0) = outsF (aWf (W4 m) d) (aX (W4 m) d) (aOf (W4 m) d) (aBo (W4 m) d) :=
  (Function.update_of_ne (show dv main_v48_0 ≠ dv main_v48_1 by decide) _ _).trans (Function.update_self (dv main_v48_0) _ (W4 m d))
theorem W5_B (d : Dev nD) : W5 m d (dv main_v48_1) = outsB (aWb (W4 m) d) (aX (W4 m) d) (aOb (W4 m) d) :=
  Function.update_self (dv main_v48_1) _ _

variable [∀ e, Nonempty (Elt F e)]

def seg0 : RegionSeg (pcfgs (F := F)) adm (pdats m) none defs₀ 𝒱₀ (K (F := F)).L (K (F := F)).lev 0 :=
  segOf (pdats m) 0 0 launch0.to₀.toP rfl (fun c => dat0_body (W0 m) 0 c) (fun _ _ => rfl) (fun _ _ => rfl)
    (fun _ _ => rfl) (fun c t _ => Entails.of_eq (dat0_phi (W0 m) 0 c t).symm) (fun c t => Entails.of_eq (dat0_phi (W0 m) 0 c t)) (W0 m) (W1 m) (fun _ _ => rfl)
    (fun c w => match w with
      | 0 => ((dat0 (W0 m) 0 c).arrAt_in 0 rfl cfg0.N).trans (W1_of m c _ (by decide)).symm
      | 1 => (dat0_final (W0 m) 0 c).trans (Function.update_self (dv main_v0) _ (W0 m c)).symm)
    (fun c b hb => W1_of m c b (fun h => hb (by
      rw [Proc.devRef_injective _ h]; exact Finset.mem_image_of_mem _ (Finset.mem_univ (1 : Fin 2)))))

theorem seg1_input (c : Dev nD) (w : Fin 9) (h : (cfg2.win w).isOut = false) (h₁ : dv (arrRef spec2 w) ≠ dv main_v48_0)
    (h₂ : dv (arrRef spec2 w) ≠ dv main_v48_1) : (dat2 (W4 m) 1 c).arrAt w cfg2.N = W5 m c (dv (arrRef spec2 w)) :=
  ((dat2 (W4 m) 1 c).arrAt_in w h cfg2.N).trans (W5_of m c (arrRef spec2 w) h₁ h₂).symm

/-- The second region's arrays when it ends: its operands as they were, its two results. -/
theorem seg1_final (c : Dev nD) : ∀ w : Fin 9, (dat2 (W4 m) 1 c).arrAt w cfg2.N = W5 m c (dv (arrRef spec2 w))
  | 0 => seg1_input m c 0 rfl (by decide) (by decide)
  | 1 => seg1_input m c 1 rfl (by decide) (by decide)
  | 2 => seg1_input m c 2 rfl (by decide) (by decide)
  | 3 => seg1_input m c 3 rfl (by decide) (by decide)
  | 4 => seg1_input m c 4 rfl (by decide) (by decide)
  | 5 => seg1_input m c 5 rfl (by decide) (by decide)
  | 6 => seg1_input m c 6 rfl (by decide) (by decide)
  | 7 => (dat2_finalF (W4 m) 1 c).trans (W5_F m c).symm
  | 8 => (dat2_finalB (W4 m) 1 c).trans (W5_B m c).symm

def seg1 : RegionSeg (pcfgs (F := F)) adm (pdats m) none defs₀ 𝒱₀ (K (F := F)).L (K (F := F)).lev 1 :=
  segOf (pdats m) 1 1 launch₀2.toP rfl (fun c => dat2_body (W4 m) 1 c) (fun _ _ => rfl) (fun _ _ => rfl)
    (fun _ _ => rfl) (fun c t ht => dat2_phi0 (W4 m) 1 c t ht)
    (fun c t => scr2_out (W4 m) c t.val) (W4 m) (W5 m) (fun _ _ => rfl)
    (fun c w => seg1_final m c w)
    (fun c b hb => W5_of m c b
      (fun h => hb (by rw [Proc.devRef_injective _ h]; exact Finset.mem_image_of_mem _ (Finset.mem_univ (7 : Fin 9))))
      (fun h => hb (by rw [Proc.devRef_injective _ h]; exact Finset.mem_image_of_mem _ (Finset.mem_univ (8 : Fin 9)))))

end Vals

end Cert.KernelIdeal.Work

end
-- ==== Proof.RunI.lean ====
/-
  The program's run: the steps of @main one after another, and what the final memory holds.
-/
module

public import proofs.«01_k».proof.Proof.MainI

@[expose] public section

set_option maxRecDepth 16384

noncomputable section

namespace Cert.KernelIdeal.Work

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline
open TcCoe

variable {F : FTy → Type} [FloatOps F]

local notation "𝕄" => MT nD τ sig (HIx 1) (Elt F) ℕ UU ℕ

variable (m : (ℓ : Loc nD τ sig) → Buf (Elt F) ℓ)

/-! ## The steps of @main that are no host operation -/

/-- Before call `n` the core's state is what it owes and the rest of its evidence. -/
theorem tcSt_split0 (d : Dev nD) : ∃ R : sProp 𝕄, (K (F := F)).tcSt EH d 0 = iprop(owesTc d 0 ∗ R) := ⟨_, rfl⟩
theorem tcSt_split1 (d : Dev nD) : ∃ R : sProp 𝕄, (K (F := F)).tcSt EH d 1 = iprop(owesTc d 1 ∗ R) := ⟨_, rfl⟩

/-- The ghost state of the two pipelines. -/
def G (d : Dev nD) : sProp 𝕄 :=
  iprop((bigSep Finset.univ fun p : Fin 2 => cellsGhost (pin (pcfgs (F := F)) adm) EP p d)
    ∗ bigSep Finset.univ fun p : Fin 2 => toksInit (pin (pcfgs (F := F)) adm) EP p d)

variable [∀ e, Nonempty (Elt F e)]

/-- A region's step of @main: `RegionSeg.wp` in the program with the SparseCore calls. -/
theorem region_wp {p : Fin 2} (R : RegionSeg (pcfgs (F := F)) adm (pdats m) none defs₀ 𝒱₀ (K (F := F)).L (K (F := F)).lev p) (d : Dev nD)
    {α : Type} (k : PUnit → Prog (TpuEff nD τ sig (Elt F) (SparseCore.Sig (ΛP (F := F)) 1) .tc) α) (Q : α → sProp 𝕄) :
    iprop(boundary (T d) ∗ R.pre d ∗ levAts (K (F := F)).L (K (F := F)).lev
        ∗ cellsGhost (pin (pcfgs (F := F)) adm) EP p d ∗ toksInit (pin (pcfgs (F := F)) adm) EP p d)
      ⊢ iprop((iprop(boundary (T d) ∗ R.post d) -∗ wp frame (wpE ((K (F := F)).defs D) 𝒱 (T d) none) Set.univ (k ⟨⟩) Q)
        -∗ wp frame (wpE ((K (F := F)).defs D) 𝒱 (T d) none) Set.univ
          (Prog.lift (.customCall (SparseCore.inner (Pipeline.entry p)) ()) >>= k) Q) := by
  rw [wp_bind]
  have hw := R.wp (pcfgs (F := F)) adm (pdats m) none cellOf_inj EP defs₀ 𝒱₀ (K (F := F)).L (K (F := F)).lev d none
    (fun u hu => by cases hu) (fun u => .ret u) (fun _ => wp frame (wpE ((K (F := F)).defs D) 𝒱 (T d) none) Set.univ (k ⟨⟩) Q)
  have hl := (K (F := F)).wp_liftProg D 𝒱 (T d) Set.univ none (.op (.customCall (Pipeline.entry p) ()) fun u => .ret u)
    (fun _ => wp frame (wpE ((K (F := F)).defs D) 𝒱 (T d) none) Set.univ (k ⟨⟩) Q)
  iintro H Hk
  iapply hl
  iapply hw
  icases H with ⟨Hb, Hp, Hl, Hg, Ht⟩
  isplitl [Hk]
  · iintro H; rw [wp_ret]; imodintro; iapply Hk; iexact H
  isplitl [Hb]; · iexact Hb
  isplitl [Hp]; · iexact Hp
  isplitl [Hl]; · iexact Hl
  isplitl [Hg] <;> iassumption

/-- The SparseCore call's three buffers. -/
abbrev callRefs : Finset (DevRef τ sig) := {dv main_v2, dv main_v0, dv main_v3}

theorem callRefs_sub : callRefs ⊆ ucRefs τ sig := by decide

omit [FloatOps F] [∀ e, Nonempty (Elt F e)] in
theorem held_call (d : Dev nD) (V : Valuation τ sig (Elt F)) :
    (StableHlo.held (T d) callRefs V : sProp 𝕄) = iprop((iLoc d ↦{fullShare} V (dv main_v2)) ∗ (tLoc d ↦{fullShare} V (dv main_v0)) ∗ oLoc d ↦{fullShare} V (dv main_v3)) := by
  unfold StableHlo.held callRefs
  rw [SparseCore.bigSep_insert' (by decide), SparseCore.bigSep_insert' (by decide), bigSep_singleton]

omit [∀ e, Nonempty (Elt F e)] in
theorem W3_at (d : Dev nD) : W3 m d (dv main_v3) = gRows (W2 m d (dv main_v0)) (W2 m d (dv main_v2)) :=
  Function.update_self (dv main_v3) _ (W2 m d)

/-- The SparseCore call's payloads at the buffers' contents when it starts. -/
abbrev PP := P (fun d => W2 m d (dv main_v0)) (fun d => W2 m d (dv main_v2)) (fun d => W2 m d (dv main_v3))

/-- The SparseCore call's step of @main: the buffers go from `W2` to `W3`. -/
theorem call_wp (κ : GSem nD τ sig → ℕ) (d : Dev nD) {α : Type} (k : PUnit → Prog (TpuEff nD τ sig (Elt F) (SparseCore.Sig (ΛP (F := F)) 1) .tc) α) (Q : α → sProp 𝕄) :
    iprop((K (F := F)).ctx EH (PP m) κ ∗ (K (F := F)).tcSt EH d 0 ∗ StableHlo.held (T d) (ucRefs τ sig) (W2 m d))
      ⊢ iprop((iprop((K (F := F)).tcSt EH d 1 ∗ StableHlo.held (T d) (ucRefs τ sig) (W3 m d))
          -∗ wp frame (wpE ((K (F := F)).defs D) 𝒱 (T d) none) Set.univ (k ⟨⟩) Q)
        -∗ wp frame (wpE ((K (F := F)).defs D) 𝒱 (T d) none) Set.univ ((K (F := F)).run d 0 >>= k) Q) := by
  rw [wp_bind, StableHlo.held_sub_split (T d) callRefs_sub (W2 m d), StableHlo.held_sub_split (T d) callRefs_sub (W3 m d),
    held_call d (W2 m d), held_call d (W3 m d),
    StableHlo.held_congr (T d) (S := ucRefs τ sig \ callRefs) (V := W3 m d) (V' := W2 m d)
      (fun b hb => W3_of m d b (fun e => (Finset.mem_sdiff.mp hb).2 (by rw [e]; decide)))]
  iintro ⟨Hctx, Hst, ⟨Hi, Ht, Ho⟩, Hrest⟩ Hk
  iapply ((K (F := F)).wp_run D 𝒱 (EH := EH) (P := PP m) κ d 0) $$ [Hctx Hst Hi Ht Ho Hrest Hk]
  isplitl [Hctx]; · iexact Hctx
  isplitl [Hst]; · iexact Hst
  isplitl [Hi Ht Ho]
  · rw [st_eq]
    isplitl [Hi]; · iexact Hi
    isplitl [Ht]; · iexact Ht
    iexact Ho
  iintro ⟨Hst, Hdn⟩
  ihave Hdn' := (Entails.of_eq (dn_eq _ _ _ d)) $$ Hdn
  icases Hdn' with ⟨Hi, Ht, Ho⟩
  iapply Hk
  isplitl [Hst]; · iexact Hst
  isplitr [Hrest]
  · rw [W3_of m d (dv main_v2) (by decide), W3_of m d (dv main_v0) (by decide), W3_at]
    isplitl [Hi]; · iexact Hi
    isplitl [Ht]; · iexact Ht
    iexact Ho
  iexact Hrest

omit [∀ e, Nonempty (Elt F e)] in
/-- A stretch of host operations: every buffer from `V` to `after ops V`. -/
theorem host_wp (d : Dev nD) (ops : List (HloOp τ sig (Elt F))) (hs : ops.Forall fun op => op.bufs ⊆ StableHlo.tcRefs τ sig)
    (hf : ops.Forall fun op => op.fresh = ∅) (V : Valuation τ sig (Elt F))
    {α : Type} (k : PUnit → Prog (TpuEff nD τ sig (Elt F) (SparseCore.Sig (ΛP (F := F)) 1) .tc) α) (Q : α → sProp 𝕄) :
    iprop(boundary (T d) ∗ StableHlo.held (T d) (ucRefs τ sig) V)
      ⊢ iprop((iprop(boundary (T d) ∗ StableHlo.held (T d) (ucRefs τ sig) (StableHlo.after ops V))
          -∗ wp frame (wpE ((K (F := F)).defs D) 𝒱 (T d) none) Set.univ (k ⟨⟩) Q)
        -∗ wp frame (wpE ((K (F := F)).defs D) 𝒱 (T d) none) Set.univ (StableHlo.seq ops >>= k) Q) :=
  StableHlo.wp_seq (defs := (K (F := F)).defs D) 𝒱 none Set.univ d (ucRefs τ sig) k ops
    (fun op h => sub_ucRefs op (List.forall_iff_forall_mem.mp hs op h)) (List.forall_iff_forall_mem.mp hf) V

omit [FloatOps F] [∀ e, Nonempty (Elt F e)] in
theorem held_launch (d : Dev nD) :
    (unscopedBufs d (fun b => m ((SparseCore.T d).loc b)) : sProp 𝕄) = StableHlo.held (T d) (ucRefs τ sig) (W0 m d) := by
  rw [← unscopedBufs_held]
  rfl

/-- @main on device `d`'s TensorCore: from the launch contents to `W6`. -/
theorem hmain (ρ : Dev nD → PrngReg) (κ : GSem nD τ sig → ℕ) (d : Dev nD) :
    iprop((K (F := F)).ctx EH (PP m) κ ∗ (K (F := F)).tcSt EH d 0 ∗ (K (F := F)).tcRes m ρ d ∗ G d)
      ⊢ wp frame (wpE ((K (F := F)).defs (D (F := F))) 𝒱 (T d) none) Set.univ (main d)
          fun _ => iprop((K (F := F)).tcSt EH d 1 ∗ StableHlo.held (T d) (ucRefs τ sig) (W6 m d) ∗ (K (F := F)).tcEnd d) := by
  obtain ⟨R₀, h₀⟩ := tcSt_split0 (F := F) d
  obtain ⟨R₁, h₁⟩ := tcSt_split1 (F := F) d
  unfold SparseCore.Cfg.tcRes SparseCore.Cfg.tcEnd G
  rw [bigSep_W0, bigSep_W0, main_chain,
    held_launch]
  simp only [chain_cons, chain_nil]
  iintro ⟨#Hctx, Hst, ⟨Hb, Hh, Hts, -⟩, ⟨Hg₀, Hg₁⟩, Ht₀, Ht₁⟩
  ihave #Hlev := ((K (F := F)).ctx_levAts (EH := EH) (P := PP m) κ) $$ Hctx
  ihave Hst' := (Entails.of_eq h₀) $$ Hst
  icases Hst' with ⟨HO, HR⟩
  iapply (region_wp m (seg0 m) d _ _) $$ [Hb Hh HO Hg₀ Ht₀]
  · isplitl [Hb]; · iexact Hb
    isplitl [Hh HO]
    · rw [show (seg0 m).pre d = iprop(StableHlo.held (T d) (ucRefs τ sig) (W0 m d) ∗ owesTc d 0) from rfl]
      isplitl [Hh] <;> iassumption
    isplitr; · iexact Hlev
    isplitl [Hg₀] <;> iassumption
  rw [show (seg0 m).post d = iprop(StableHlo.held (T d) (ucRefs τ sig) (W1 m d) ∗ owesTc d 0) from rfl]
  iintro ⟨Hb, Hh, HO⟩
  iapply (host_wp d opsA opsA_sub opsA_fresh (W1 m d) _ _) $$ [Hb Hh]
  · isplitl [Hb] <;> iassumption
  iintro ⟨Hb, Hh⟩
  iapply (call_wp m κ d _ _) $$ [Hh HO HR]
  · isplitr; · iexact Hctx
    isplitr [Hh]
    · rw [h₀]; isplitl [HO] <;> iassumption
    iexact Hh
  iintro ⟨Hst, Hh⟩
  ihave Hst' := (Entails.of_eq h₁) $$ Hst
  icases Hst' with ⟨HO, HR⟩
  iapply (host_wp d opsB opsB_sub opsB_fresh (W3 m d) _ _) $$ [Hb Hh]
  · isplitl [Hb] <;> iassumption
  iintro ⟨Hb, Hh⟩
  iapply (region_wp m (seg1 m) d _ _) $$ [Hb Hh HO Hg₁ Ht₁]
  · isplitl [Hb]; · iexact Hb
    isplitl [Hh HO]
    · rw [show (seg1 m).pre d = iprop(StableHlo.held (T d) (ucRefs τ sig) (W4 m d) ∗ owesTc d 1) from rfl]
      isplitl [Hh]; · iexact Hh
      iexact HO
    isplitr; · iexact Hlev
    isplitl [Hg₁] <;> iassumption
  rw [show (seg1 m).post d = iprop(StableHlo.held (T d) (ucRefs τ sig) (W5 m d) ∗ owesTc d 1) from rfl]
  iintro ⟨Hb, Hh, HO⟩
  iapply (host_wp d opsC opsC_sub opsC_fresh (W5 m d) _ _) $$ [Hb Hh]
  · isplitl [Hb] <;> iassumption
  iintro ⟨Hb, Hh⟩
  rw [wp_pure]
  imodintro
  isplitl [HO HR]; · rw [h₁]; isplitl [HO] <;> iassumption
  isplitl [Hh]; · iexact Hh
  isplitl [Hb]; · iexact Hb
  iexact Hts

/-! ## The launch element of the ghost state, and the final memory -/

/-- The handshakes' and the pipelines' rounds at launch. -/
def u₀ : UU :=
  (initOf (sc (F := F)).hsCells (sc (F := F)).hsToks,
    (initOf (Pipeline.cells (nD := nD) (τ := τ) cfgs cellOf_inj) (Pipeline.launchToks (nD := nD) (τ := τ) cfgs cellOf_inj), 1))

omit [FloatOps F] [∀ e, Nonempty (Elt F e)] in
theorem bigSep_empty' {I : Type} (s : Finset I) : (bigSep s fun _ => iprop(emp)) = (iprop(emp) : sProp 𝕄) := bigSep_emp_const s

omit [∀ e, Nonempty (Elt F e)] in
theorem hu₀ : (ownU (u₀ (F := F)) : sProp 𝕄)
    ⊢ |={Set.univ}=> iprop(BI.own (EH (initOf (K (F := F)).hsCells (K (F := F)).hsToks)) ∗ bigSep Finset.univ (G (F := F))
        ∗ bigSep Finset.univ fun thr : Thread nD τ => bigSep Finset.univ fun q : Fin 1 => (PP m).x q thr) := by
  unfold u₀
  iintro Hu
  ihave H := (ownU_pair _ _) $$ Hu
  icases H with ⟨HH, HP⟩
  ihave HP' := (own_pair_emb embR _ _) $$ HP
  icases HP' with ⟨HP, -⟩
  imod (Pipeline.fund_ghost cfgs EP cellOf_inj) $$ HP with ⟨Hg, Ht⟩
  imodintro
  isplitl [HH]; · iexact HH
  isplitl [Hg Ht]
  · unfold G
    rw [bigSep_sep']
    isplitl [Hg] <;> iassumption
  rw [show (bigSep Finset.univ fun thr : Thread nD τ => bigSep Finset.univ fun q : Fin 1 => (PP m).x q thr) = bigSep Finset.univ fun _ => iprop(emp) from
    bigSep_congr fun _ _ => bigSep_univ_of_subsingleton (0 : Fin 1), bigSep_empty']
  iempintro

omit [FloatOps F] [∀ e, Nonempty (Elt F e)] in
/-- The final memory holds, at every buffer of @main, what is held of it. -/
theorem held_final (d : Dev nD) (V : Valuation τ sig (Elt F)) (s' : Phys nD τ sig (Elt F)) :
    iprop(StableHlo.held (T d) (ucRefs τ sig) V ∗ SI s') ⊢ (⌜∀ b : DevRef τ sig, b ∈ ucRefs τ sig → s'.mem.mem (d, b) = V b⌝ : sProp 𝕄) := by
  refine (Laws.forall_intro fun b => ?_).trans Laws.pure_forall.2
  by_cases hb : b ∈ ucRefs τ sig
  · have e : (StableHlo.held (SparseCore.T d) (ucRefs τ sig) V : sProp 𝕄)
        = iprop((((d, b) : Loc nD τ sig) ↦{fullShare} V b) ∗ StableHlo.held (SparseCore.T d) ((ucRefs τ sig).erase b) V) :=
      Idealize.SL.BI.bigSep_erase (Φ := fun b : DevRef τ sig => (((d, b) : Loc nD τ sig) ↦{fullShare} V b : sProp 𝕄)) hb
    rw [e]
    iintro ⟨⟨H, -⟩, HSI⟩
    ihave H := (SI_pointsTo_agree (st := s') (ℓ := (d, b)) (I := Finset.univ) (q := fullShare) (f := V b)) $$ [HSI H]
    · isplitl [HSI] <;> iassumption
    icases H with %h
    ipureintro
    exact fun _ => funext fun i => h i (Finset.mem_univ i)
  · iintro -
    ipureintro
    exact fun h => absurd h hb

/-- The program's run, from row numbers below 100000: every buffer of @main ends at `W6`, every semaphore at zero. -/
theorem run_main (ρ : Dev nD → PrngReg) (hI : ∀ d j, (W2 m d (dv main_v2) j).toNat < 100000) :
    θ_run (Cert.KernelIdeal.defs (F := F)) (Cert.KernelIdeal.threads (F := F)) ⟨m, fun _ => 0, ρ⟩
      (fun r => (∀ (d : Dev nD) (b : DevRef τ sig), b ∈ ucRefs τ sig → r.2.mem (d, b) = W6 m d b) ∧ r.2.sem = fun _ => 0) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl _ _ _ facts hI)
    (fun q _ => match q with | 0 => SparseCore.Cfg.VecSplit.of_plain (vecSplit _ _ _))
    m ρ main G (fun d => StableHlo.held (T d) (ucRefs τ sig) (W6 m d)) (u₀ (F := F)) (sep_elim_left.trans (hu₀ m)) (hmain m ρ)
    (fun d s' => ∀ b : DevRef τ sig, b ∈ ucRefs τ sig → s'.mem.mem (d, b) = W6 m d b) (fun d s' => held_final d (W6 m d) s') _
    (fun _ h hz => ⟨h, hz⟩)

end Cert.KernelIdeal.Work

end
-- ==== Proof.FrameI.lean ====
/-
  THE FRAME: no operation of @main writes an argument, so each holds at the end what it held at the start; and the row
  numbers the gather reads are the first argument's entries, so the precondition bounds them.
-/
module

public import proofs.«01_k».proof.Proof.RunI
public import proofs.«01_k».proof.Proof.Gen.Pre_in_range
public import Idealize.ShloMosaic.Lib.StableHlo.RunRead
public import Idealize.ShloMosaic.Lib.ReduceAll
public import Idealize.ShloMosaic.Lib.StableHlo.ReadAt

@[expose] public section

set_option maxRecDepth 16384

noncomputable section

namespace Cert.KernelIdeal.Work

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline
open TcCoe

variable {F : FTy → Type} [FloatOps F]

local notation "𝕄" => MT nD τ sig (HIx 1) (Elt F) ℕ UU ℕ

/-- The references the operations of `opsA` write, in order. -/
abbrev wA : List (Ref sig .tc) :=
  [main_v1, main_v2]

theorem wA_eq : (opsA : List (HloOp τ sig (Elt F))).map HloOp.writes = wA.map fun w => {Proc.devRef (τ := τ) .tc w} := rfl

/-- The references the operations of `opsB` write, in order. -/
abbrev wB : List (Ref sig .tc) :=
  [main_v4, main_cst, main_v5, main_cst_0, main_v6, main_cst_1, main_v7, main_cst_2, main_v8, main_v9, main_v10, main_v11, main_v12, main_v13, main_c, main_call0_v0, main_v14, main_v15, main_c_3, main_v16, main_v17, main_v18, main_cst_4, main_v19, main_v20, main_v21, main_v22, main_v23, main_v24, main_v25, main_c_5, main_call1_v0, main_v26, main_v27, main_c_6, main_v28, main_v29, main_v30, main_cst_7, main_v31, main_v32, main_v33, main_v34, main_v35, main_v36, main_v37, main_v38, main_cst_8, main_v39, main_v40, main_v41, main_v42, main_v43, main_cst_9, main_v44, main_v45, main_v46, main_v47]

theorem wB_eq : (opsB : List (HloOp τ sig (Elt F))).map HloOp.writes = wB.map fun w => {Proc.devRef (τ := τ) .tc w} := rfl

/-- The references the operations of `opsC` write, in order. -/
abbrev wC : List (Ref sig .tc) :=
  [main_v49, main_v50]

theorem wC_eq : (opsC : List (HloOp τ sig (Elt F))).map HloOp.writes = wC.map fun w => {Proc.devRef (τ := τ) .tc w} := rfl

variable [∀ e, Nonempty (Elt F e)] (m : (ℓ : Loc nD τ sig) → Buf (Elt F) ℓ)

/-- A reference that no stretch, no region and not the SparseCore call writes keeps its contents to the end. -/
theorem W6_kept (d : Dev nD) (b : Ref sig .tc) (hA : b ∉ wA) (hB : b ∉ wB) (hC : b ∉ wC)
    (h0 : dv b ≠ dv main_v0) (h3 : dv b ≠ dv main_v3) (hF : dv b ≠ dv main_v48_0) (hG : dv b ≠ dv main_v48_1) :
    W6 m d (dv b) = m (d, dv b) := by
  unfold W6
  rw [StableHlo.after_unwritten wC wC_eq hC, W5_of m d b hF hG]
  unfold W4
  rw [StableHlo.after_unwritten wB wB_eq hB, W3_of m d _ h3]
  unfold W2
  rw [StableHlo.after_unwritten wA wA_eq hA, W1_of m d b h0]
  rfl

/-- The precondition bounds the row numbers: each is below the table's 100000 rows. -/
theorem rows_lt {n0 n1 n2 n3 n4 n5 n6 n7 n8 n9 n10} {a0 : IVec S1024x200 32}
    (h : Cert.Pre_in_range.fn (F := F) a0 n0 n1 n2 n3 n4 n5 n6 n7 n8 n9 n10 = fun _ => 1#1) (i : S1024x200.Idx) : (a0 i).toNat < 100000 := by
  have hs : Subsingleton Cert.Pre_in_range.S_.Idx := ⟨by decide⟩
  have e := Host.reduce_andi_all _ _ _ _ (Shape.Idx.first Cert.Pre_in_range.Gen.h_S_) (congrFun h _) i
  have e' : IntOp.andi (IntOp.cmpi .sge (a0 i) 0#32) (IntOp.cmpi .slt (a0 i) 100000#32) = 1#1 := e
  have andi_ofBool : ∀ a b : Bool, IntOp.andi (BitVec.ofBool a) (BitVec.ofBool b) = BitVec.ofBool (a && b) := by decide
  have ofBool_eq_one : ∀ a : Bool, BitVec.ofBool a = 1#1 ↔ a = true := by decide
  simp only [IntOp.cmpi, andi_ofBool, ofBool_eq_one, Bool.and_eq_true, BitVec.sle_eq_decide, BitVec.slt_eq_decide, decide_eq_true_eq,
    BitVec.toInt_eq_toNat_cond, BitVec.toNat_ofNat, Nat.reducePow, Nat.reduceMod] at e'
  omega

/-- The row numbers as the gather reads them, time-major: entry `j` is the first argument's at batch `j % 1024`, step `j / 1024`. -/
theorem v2_at (d : Dev nD) (j : S204800.Idx) :
    W2 m d (dv main_v2) j = (show IVec S1024x200 32 from m (d, dv main_arg0))
      (fun | 0 => ⟨(j 0).val % 1024, Nat.mod_lt _ (by decide)⟩ | 1 => ⟨(j 0).val / 1024, Nat.div_lt_of_lt_mul (j 0).isLt⟩) := by
  rw [← (show W1 m d (dv main_arg0) = m (d, dv main_arg0) from W1_of m d main_arg0 (by decide))]
  unfold W2
  show StableHlo.after opsA (W1 m d) (Proc.devRef .tc main_v2) j = _
  after_reads_at
  exact congrArg _ (funext fun a => by fin_cases a <;> rfl)

/-- What the precondition says of the launch memory, device by device. -/
def InRange : Prop := ∀ c : Dev nD, Cert.Pre_in_range.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) = fun _ => 1#1

/-- Under it every row number the gather reads is a row of the table. -/
theorem v2_lt (h : InRange m) (d : Dev nD) (j : S204800.Idx) : (W2 m d (dv main_v2) j).toNat < 100000 := by
  rw [v2_at m d j]
  exact rows_lt (h d) _

/-- The run, from a memory in range. -/
theorem run_in_range (h : InRange m) (ρ : Dev nD → PrngReg) :
    θ_run (Cert.KernelIdeal.defs (F := F)) (Cert.KernelIdeal.threads (F := F)) ⟨m, fun _ => 0, ρ⟩
      (fun r => (∀ (d : Dev nD) (b : DevRef τ sig), b ∈ ucRefs τ sig → r.2.mem (d, b) = W6 m d b) ∧ r.2.sem = fun _ => 0) :=
  run_main m ρ (v2_lt m h)

/-- One argument's contents at the end. -/
theorem arg_kept {s : MemSt nD τ sig (Elt F)} (hs : ∀ (d : Dev nD) (b : DevRef τ sig), b ∈ ucRefs τ sig → s.mem (d, b) = W6 m d b)
    (c : Dev nD) (b : Ref sig .tc) (hu : dv b ∈ ucRefs τ sig) (hA : b ∉ wA) (hB : b ∉ wB) (hC : b ∉ wC)
    (h0 : dv b ≠ dv main_v0) (h3 : dv b ≠ dv main_v3) (hF : dv b ≠ dv main_v48_0) (hG : dv b ≠ dv main_v48_1) :
    s.mem ((c.tc : Thread nD τ).loc b) = m ((c.tc : Thread nD τ).loc b) :=
  (hs c _ hu).trans (W6_kept m c b hA hB hC h0 h3 hF hG)

/-- All twelve arguments end as they began. -/
def Kept (s : MemSt nD τ sig (Elt F)) (c : Dev nD) : Prop :=
  s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11)

theorem args_kept {s : MemSt nD τ sig (Elt F)} (hs : ∀ (d : Dev nD) (b : DevRef τ sig), b ∈ ucRefs τ sig → s.mem (d, b) = W6 m d b)
    (c : Dev nD) : Kept m s c := by
  refine ⟨?_, ?_, ?_, ?_, ?_, ?_, ?_, ?_, ?_, ?_, ?_, ?_⟩ <;>
    exact arg_kept m hs c _ (by decide) (by decide) (by decide) (by decide) (by decide) (by decide) (by decide) (by decide)

/-- THE FRAME: from a memory in range the kernel runs to its end, its arguments unchanged and every counter at zero. -/
theorem frame (h : InRange m) (ρ : Dev nD → PrngReg) :
    θ_run (Cert.KernelIdeal.defs (F := F)) (Cert.KernelIdeal.threads (F := F)) ⟨m, fun _ => 0, ρ⟩
      (fun r => (∀ c : Dev nD, Kept m r.2 c) ∧ r.2.sem = fun _ => 0) :=
  (θ_run _ _ _).mono (fun _ hr => ⟨args_kept m hr.1, hr.2⟩) (run_in_range m h ρ)

end Cert.KernelIdeal.Work

end
-- ==== Proof.RefI.lean ====
/-
  THE REFERENCE LEAVES EVERY COUNTER AT ZERO. The reference is host operations with one counted loop among them; the
  library's run of such a program says what the buffers hold, and here the same segments are run once more for the
  semaphore counters.
-/
module

public import proofs.«01_k».proof.Proof.Gen.ReferenceIdeal.Run
public import Idealize.ShloMosaic.Lib.Pipeline.RegionsLoop
public import Idealize.ShloMosaic.Lib.Pipeline.Quiescent
public import Idealize.ShloMosaic.Lib.Claim

@[expose] public section

set_option maxRecDepth 16384

noncomputable section

namespace Cert.ReferenceIdeal.Work

open Idealize.ShloMosaic Idealize.ShloMosaic.TcCoe
open Idealize.SL Idealize.SL.RA Idealize.SL.BI
open scoped Idealize.SL.BI
open Idealize.SL.BI.BIBase Idealize.SL.BI.Laws Idealize.SL.Sem Idealize.SL.ProofMode
open Idealize.ShloMosaic.StableHlo Idealize.ShloMosaic.Pipeline
open Cert.ReferenceIdeal Cert.ReferenceIdeal.Gen Cert.ReferenceIdeal.Value

variable {F : FTy → Type} [FloatOps F] [∀ e, Nonempty (Elt F e)]

local notation "𝕄" => MT nD τ sig Unit (Elt F) ℕ (Option PUnit) ℕ

abbrev adm0 : (p : Fin 0) → (pcfgs (F := F) p).Adm := fun p => p.elim0
abbrev tk0 : Fin 0 → Ticket (Ix := Unit) (Name := ℕ) (U := Option PUnit) (Lvl := ℕ) (nD := nD) (τ := τ) (pcfgs (F := F)) adm0 := fun j => j.elim0
abbrev L0 : GSem nD τ sig → Finset Unit := fun _ => ∅
abbrev lv0 : GSem nD τ sig → Unit → ℕ := fun _ _ => 0

/-- The program enters no kernel, so the map of staging cells is injective. -/
theorem cells_inj : Function.Injective (Pipeline.cellOf (nD := nD) (τ := τ) (Pipeline.pin (pcfgs (F := F)) adm0)) := fun k => k.1.elim0

/-- What a core carries beside the buffers: that it owes nothing. -/
abbrev Rw (c : Dev nD) : sProp 𝕄 := iprop(∃ W, owes (c : Thread nD τ) (0 : CellTallies nD τ sig Unit) W)

variable (m : (ℓ : Loc nD τ sig) → Buf (Elt F) ℓ)

/-- The loop's condition, with what a core carries put beside it. -/
theorem cond_carry : LoopCond (pcfgs (F := F)) defs₀ Variants.none loops Rw (main_while0_cond (F := F)) condOps bodyI (entryContents preI m) 200 := fun k hk c bd => by
  have hp : ∀ v : Elt F .i1,
      iprop(iprop(⌜v = 1#1 ↔ k < 200⌝ ∗ boundary (c : Thread nD τ) ∗ held (c : Thread nD τ) (ucRefs τ sig) (after condOps (atTrip condOps bodyI (entryContents preI m) k c))) ∗ Rw c)
        ⊢ (iprop(⌜v = 1#1 ↔ k < 200⌝ ∗ boundary (c : Thread nD τ) ∗ held (c : Thread nD τ) (ucRefs τ sig) (after condOps (atTrip condOps bodyI (entryContents preI m) k c)) ∗ Rw c) : sProp 𝕄) := fun v => by
    iintro ⟨⟨%hv, Hbd, Hh⟩, HR⟩
    isplitr; · ipureintro; exact hv
    isplitl [Hbd]; · iexact Hbd
    isplitl [Hh] <;> iassumption
  refine BIBase.Entails.trans ?_ (((sep_mono_left (Q := Rw c) (cond_spec m k hk c bd)).trans (wp_frame_r _ _ _)).trans (wp_mono _ _ _ hp))
  iintro ⟨Hbd, Hh, HR⟩
  isplitl [Hbd Hh]; · isplitl [Hbd] <;> iassumption
  iexact HR

/-- The stretches before the loop, the loop, the stretch after it. -/
def segs : List (CSeg (pcfgs (F := F)) adm0 defs₀ Variants.none L0 lv0 loops tk0) :=
  segsOf _ _ _ _ _ _ _ _ Rw preI hpre (launchContents m)
    ++ loopSeg _ _ _ _ _ _ _ _ 0 main_while0_cond main_while0_body rfl condOps bodyI hbodyI (by rw [while0_body_chain]; rfl) 200 (entryContents preI m) Rw (cond_carry m)
      :: segsOf _ _ _ _ _ _ _ _ Rw postI hpost (fun c => after condOps (atTrip condOps bodyI (entryContents preI m) 200 c))

/-- Their fragments are @main's items, in order. -/
theorem segs_prog : (segs (F := F) m).map CSeg.prog
      = (preI.map fun ops => (seq ops : Prog _ PUnit)) ++ HostLoop.enter 0 :: postI.map fun ops => (seq ops : Prog _ PUnit) := by
  unfold segs
  rw [List.map_append, List.map_cons, segsOf_prog, segsOf_prog]
  rfl

/-- They hand the buffers on from the launch to the end. -/
theorem segs_chains :
    CSeg.Chains (fun c => iprop(held (c : Thread nD τ) (ucRefs τ sig) (launchContents m c) ∗ Rw c)) (segs (F := F) m)
      (fun c => iprop(iprop(held (c : Thread nD τ) (ucRefs τ sig) (finalContents condOps preI bodyI postI 200 m c)) ∗ ∃ W, owes (c : Thread nD τ) (0 : CellTallies nD τ sig Unit) W)) := by
  unfold segs
  exact CSeg.Chains.append (segsOf_chains _ _ _ _ _ _ _ _ Rw preI hpre _) ⟨fun _ => .rfl, segsOf_chains _ _ _ _ _ _ _ _ Rw postI hpost _⟩

/-- No semaphore of this program outlives a kernel call: there is none at all. -/
theorem no_unscoped (sm : SemLoc sig) (h : sm.isScoped .tc = false) : False := by
  revert sm; decide

/-- THE COUNTERS: from any memory, every weakly fair execution of the reference ends with every counter at zero. -/
theorem run_zero (ρ : Dev nD → PrngReg) :
    θ_run (defs (F := F)) (onTc (τ := τ) (main (F := F))) ⟨m, fun _ => 0, ρ⟩ (fun r => r.2.sem = fun _ => 0) :=
  Pipeline.θ_run_regions_loop_kit_sems (Ix := Unit) (Name := ℕ) (U := Option PUnit) (Lvl := ℕ) (J := Fin 0) (P := Fin 0) (Val := Elt F)
    (pcfgs (F := F)) adm0 cells_inj defs₀ Variants.none L0 lv0 loops tk0 m ρ main (segs m)
    (fun c Q => by
      rw [main_chain]
      show wp _ _ _ (Pipeline.chain ((segs m).map CSeg.prog)) Q ⊢ _
      rw [segs_prog]
      exact .rfl)
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Rw c))
    (Tₙ := fun c => iprop(held (c : Thread nD τ) (ucRefs τ sig) (finalContents condOps preI bodyI postI 200 m c)))
    (hch := segs_chains m)
    (hinit := by
      refine Pipeline.initEach L0 lv0 fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun _ _ => True)
    (hfin := fun c s' => by
      iintro ⟨-, HSI⟩
      imodintro
      isplitr; · ipureintro; trivial
      iexact HSI)
    (hQ := fun s _ hs => funext fun g => by
      obtain ⟨⟨d, p⟩, sm⟩ := g
      by_cases h : p = .tc
      · subst h
        cases hsc : sm.isScoped .tc
        · exact (no_unscoped sm hsc).elim
        · exact hs _ (.inr hsc)
      · exact hs _ (.inl h))

end Cert.ReferenceIdeal.Work

end
-- ==== Proof.Sig.lean ====
/-
  The arithmetic that joins the two programs, over the extended reals: the logistic function written with a hyperbolic
  tangent of half the argument, the scaled gate of one step with the biases carried by a row of ones, and one step of
  the recurrence with the hidden state held doubled.
-/
module

public import Idealize.ShloMosaic.Lib.Pointwise

@[expose] public section

set_option maxRecDepth 16384

noncomputable section

namespace Cert.Lstm

open Idealize.ShloMosaic

/-- The binary32 number 0.5, as the programs' constants denote it. -/
abbrev hf : EReal := Ideal.ofBits .f32 0x3F000000#32

/-- The constant 0.5 denotes one half. -/
theorem hf_eq : hf = ((1 / 2 : ℝ) : EReal) := by
  simp [hf, Ideal.ofBits, Ideal.ieee, -EReal.coe_mul]; norm_num

theorem hf_nonneg : 0 ≤ hf := by rw [hf_eq]; exact_mod_cast (by norm_num : (0 : ℝ) ≤ 1 / 2)
theorem hf_ne_top : hf ≠ ⊤ := by rw [hf_eq]; exact EReal.coe_ne_top _

/-- The logistic function of `z` is half of one more than the hyperbolic tangent of half of `z`, at the infinities
    too. -/
theorem sig_eq (z : EReal) : Ideal.div 1 (1 + Ideal.exp (-z)) = hf * (Ideal.tanh (hf * z) + 1) := by
  show Ideal.logistic z = _
  rw [hf_eq]
  induction z with
  | bot =>
    rw [EReal.coe_mul_bot_of_pos (by norm_num)]
    simp only [Ideal.logistic_bot, Ideal.tanh_bot]
    have : (-1 : EReal) + 1 = 0 := by
      rw [← EReal.coe_one, ← EReal.coe_neg, ← EReal.coe_add]; norm_num
    rw [this, mul_zero]
  | top =>
    rw [EReal.coe_mul_top_of_pos (by norm_num)]
    simp only [Ideal.logistic_top, Ideal.tanh_top]
    rw [← EReal.coe_one, ← EReal.coe_add, ← EReal.coe_mul]
    norm_num
  | coe r =>
    rw [← EReal.coe_mul, Ideal.logistic_coe, Ideal.tanh_coe, ← EReal.coe_one, ← EReal.coe_add, ← EReal.coe_mul]
    congr 1
    rw [Real.tanh_eq_sinh_div_cosh, Real.sinh_eq, Real.cosh_eq]
    have e1 : Real.exp (-r) = Real.exp (-(1 / 2 * r)) * Real.exp (-(1 / 2 * r)) := by rw [← Real.exp_add]; congr 1; ring
    have e2 : Real.exp (1 / 2 * r) * Real.exp (-(1 / 2 * r)) = 1 := by rw [← Real.exp_add]; simp
    rw [e1]
    have p1 := Real.exp_pos (1 / 2 * r)
    have p2 := Real.exp_pos (-(1 / 2 * r))
    generalize Real.exp (1 / 2 * r) = a at *
    generalize Real.exp (-(1 / 2 * r)) = b at *
    have h1 : (1 + b * b) ≠ 0 := by positivity
    have h2 : (a + b) ≠ 0 := by positivity
    field_simp
    nlinarith

/-- A finite factor that is not negative goes into a finite sum. -/
theorem mul_sum' {ι : Type} (t : Finset ι) (f : ι → EReal) {s : EReal} (h0 : 0 ≤ s) (h1 : s ≠ ⊤) :
    s * ∑ k ∈ t, f k = ∑ k ∈ t, s * f k := by
  classical
  induction t using Finset.induction_on with
  | empty => simp
  | insert a t ha ih => rw [Finset.sum_insert ha, Finset.sum_insert ha, EReal.left_distrib_of_nonneg_of_ne_top h0 h1, ih]

/-- A gate before its nonlinearity as the mathematics has it: both products and both biases. -/
def gz (x : Fin 100 → EReal) (h : Fin 128 → EReal) (wi : Fin 100 → EReal) (bi : EReal) (wh : Fin 128 → EReal) (bh : EReal) : EReal :=
  ((∑ k, x k * wi k) + bi + ∑ k, h k * wh k) + bh

/-- The entry of a row of 100 numbers widened to 128: the entry itself, `o` at position 100, zero beyond. -/
def wide (x : Fin 100 → EReal) (o : EReal) (k : Fin 128) : EReal :=
  if h : k.val < 100 then x ⟨k.val, h⟩ else if k.val = 100 then o else 0

/-- The product of two widened rows: the product of the rows, and that of the two entries at position 100. -/
theorem wide_sum (x w : Fin 100 → EReal) (o b s : EReal) :
    (∑ k : Fin 128, wide x o k * (wide w b k * s)) = (∑ k, x k * (w k * s)) + o * (b * s) := by
  rw [Fin.sum_univ_two_halves 100 28 rfl, Fin.sum_univ_succ (n := 27)]
  refine congrArg₂ (· + ·) (Finset.sum_congr rfl fun k _ => ?_) ?_
  · simp [wide]
  · rw [Finset.sum_eq_zero fun k _ => ?_]
    · simp [wide]
    · simp [wide]

/-- The scaled gate: with the biases on the widened row's entry 100, the hidden state doubled and its weights halved,
    the two products make `s` times the gate. -/
theorem gate_eq (x wi : Fin 100 → EReal) (h h2 wh : Fin 128 → EReal) (bi bh s : EReal) (h0 : 0 ≤ s) (h1 : s ≠ ⊤)
    (hh : ∀ k, h k = hf * h2 k) :
    (∑ k, wide x 1 k * (wide wi (bi + bh) k * s)) + ∑ k, h2 k * ((hf * wh k) * s) = s * gz x h wi bi wh bh := by
  rw [wide_sum, gz]
  simp only [EReal.left_distrib_of_nonneg_of_ne_top h0 h1, mul_sum' _ _ h0 h1, hh, one_mul]
  have e1 : ∀ k, x k * (wi k * s) = s * (x k * wi k) := fun k => by ac_rfl
  have e2 : ∀ k, h2 k * (hf * wh k * s) = s * (hf * h2 k * wh k) := fun k => by ac_rfl
  simp only [e1, e2, mul_comm _ s, EReal.left_distrib_of_nonneg_of_ne_top h0 h1]
  ac_rfl

/-- The cell state of one step from the gates, as the mathematics has it. -/
def cOf (zi zf zg c : EReal) : EReal :=
  Ideal.div 1 (1 + Ideal.exp (-zf)) * c + Ideal.div 1 (1 + Ideal.exp (-zi)) * Ideal.tanh zg

/-- The hidden state of one step from its gate and the new cell state. -/
def hOf (zo c : EReal) : EReal := Ideal.div 1 (1 + Ideal.exp (-zo)) * Ideal.tanh c

/-- The cell state in the form with hyperbolic tangents of the scaled gates. -/
theorem c_eq (zi zf zg c : EReal) :
    hf * ((Ideal.tanh (hf * zf) + 1) * c + (Ideal.tanh (hf * zi) + 1) * Ideal.tanh (1 * zg)) = cOf zi zf zg c := by
  rw [cOf, sig_eq, sig_eq, EReal.left_distrib_of_nonneg_of_ne_top hf_nonneg hf_ne_top, one_mul, mul_assoc, mul_assoc]

/-- The hidden state is half of the one held doubled. -/
theorem h_eq (zo c : EReal) : hOf zo c = hf * ((Ideal.tanh (hf * zo) + 1) * Ideal.tanh c) := by
  rw [hOf, sig_eq, mul_assoc]

/-- The weights and biases of one direction. -/
structure Par where
  wi : Fin 512 → Fin 100 → EReal
  bi : Fin 512 → EReal
  wh : Fin 512 → Fin 128 → EReal
  bh : Fin 512 → EReal

/-- One direction's weights and biases out of their arrays. -/
def par (wi : FVec Ideal ⟨2, ![512, 100]⟩ .f32) (wh : FVec Ideal ⟨2, ![512, 128]⟩ .f32) (bi bh : FVec Ideal ⟨1, ![512]⟩ .f32) : Par :=
  ⟨fun j k => wi (ix2 j k), fun j => bi (ix1 j), fun j k => wh (ix2 j k), fun j => bh (ix1 j)⟩

/-- Hidden and cell states of all 1024 rows. -/
abbrev Hc : Type := (Fin 1024 → Fin 128 → EReal) × (Fin 1024 → Fin 128 → EReal)

/-- Gate `j` of row `r` before its nonlinearity. -/
def Par.z (P : Par) (h : Fin 1024 → Fin 128 → EReal) (x : Fin 1024 → Fin 100 → EReal) (r : Fin 1024) (j : Fin 512) : EReal :=
  gz (x r) (h r) (P.wi j) (P.bi j) (P.wh j) (P.bh j)

/-- The cell state after one step. -/
def Par.c' (P : Par) (s : Hc) (x : Fin 1024 → Fin 100 → EReal) (r : Fin 1024) (u : Fin 128) : EReal :=
  cOf (P.z s.1 x r ⟨u.val, by omega⟩) (P.z s.1 x r ⟨128 + u.val, by omega⟩) (P.z s.1 x r ⟨256 + u.val, by omega⟩) (s.2 r u)

/-- One step of the recurrence. -/
def Par.step (P : Par) (s : Hc) (x : Fin 1024 → Fin 100 → EReal) : Hc :=
  (fun r u => hOf (P.z s.1 x r ⟨384 + u.val, by omega⟩) (P.c' s x r u), P.c' s x)

/-- The states after `n` steps over the inputs `xs 0`, `xs 1`, …, from zero. -/
def Par.st (P : Par) (xs : ℕ → Fin 1024 → Fin 100 → EReal) : ℕ → Hc
  | 0 => (fun _ _ => 0, fun _ _ => 0)
  | n + 1 => P.step (P.st xs n) (xs n)

/-- The factor on gate `j`: one on the third quarter, one half elsewhere. -/
def gsc (j : Fin 512) : EReal := if 256 ≤ j.val ∧ j.val < 384 then 1 else hf

theorem gsc_nonneg (j : Fin 512) : 0 ≤ gsc j := by unfold gsc; split; exacts [zero_le_one, hf_nonneg]
theorem gsc_ne_top (j : Fin 512) : gsc j ≠ ⊤ := by unfold gsc; split; exacts [EReal.coe_ne_top 1, hf_ne_top]

/-- The inputs in the order of time. -/
def ahead (xs : Fin 200 → Fin 1024 → Fin 100 → EReal) (n : ℕ) : Fin 1024 → Fin 100 → EReal :=
  xs ⟨n % 200, Nat.mod_lt _ (by decide)⟩

/-- The inputs in the opposite order. -/
def back (xs : Fin 200 → Fin 1024 → Fin 100 → EReal) (n : ℕ) : Fin 1024 → Fin 100 → EReal := ahead xs (199 - n)

/-- The result at row `r`, time `t` and output `o`: the two directions' hidden states there by their halves of the
    output weights, and the bias. -/
def out (xs : Fin 200 → Fin 1024 → Fin 100 → EReal) (P Q : Par) (V : Fin 20 → Fin 256 → EReal) (b : Fin 20 → EReal)
    (r : Fin 1024) (t : Fin 200) (o : Fin 20) : EReal :=
  ((∑ k : Fin 128, (P.st (ahead xs) (t.val + 1)).1 r k * V o ⟨k.val, by omega⟩) + b o)
    + ∑ k : Fin 128, (Q.st (back xs) (200 - t.val)).1 r k * V o ⟨128 + k.val, by omega⟩

/-- The embedded words: the row of the table that the word at row `r` and time `t` names. -/
def emb (T : Fin 100000 → Fin 100 → EReal) (I : Fin 1024 → Fin 200 → BitVec 32) (t : Fin 200) (r : Fin 1024) (k : Fin 100) : EReal :=
  T ⟨(I r t).toNat % 100000, Nat.mod_lt _ (by decide)⟩ k

end Cert.Lstm
-- ==== Proof.CellI.lean ====
/-
  One step of the kernel's recurrence at the extended reals: with the weights, biases and scale folded into one matrix
  and the hidden state held doubled, it is one step of the recurrence as the mathematics has it.
-/
module

public import proofs.«01_k».proof.Proof.Sig
public import proofs.«01_k».proof.Proof.BilstmI

@[expose] public section

set_option maxRecDepth 16384

noncomputable section

namespace Cert.KernelIdeal.Work

open Cert.KernelIdeal Cert.KernelIdeal.Gen Cert.Lstm
open Idealize.ShloMosaic

/-- The kernel's gate matrix of one direction, at an entry of either half of its rows. -/
def IsW (P : Par) (W : FVec Ideal S256x512 .bf16) : Prop :=
  (∀ (k : Fin 128) (j : Fin 512), W (ix2 ⟨k.val, by omega⟩ j) = wide (P.wi j) (P.bi j + P.bh j) k * gsc j)
  ∧ ∀ (k : Fin 128) (j : Fin 512), W (ix2 ⟨128 + k.val, by omega⟩ j) = (hf * P.wh j k) * gsc j

/-- The kernel's state is the mathematics', the hidden part doubled. -/
def IsSt (s : Hc) (h : FVec Ideal S1024x128 .bf16) (c : FVec Ideal S1024x128 .f32) : Prop :=
  (∀ r u, s.1 r u = hf * h (ix2 r u)) ∧ ∀ r u, s.2 r u = c (ix2 r u)

/-- The kernel's gates before their nonlinearity are the mathematics' by the gate's scale. -/
theorem pay6_at (P : Par) (W : FVec Ideal S256x512 .bf16) (hW : IsW P W) (s : Hc) (h : FVec Ideal S1024x128 .bf16)
    (c : FVec Ideal S1024x128 .f32) (hs : IsSt s h c) (X : FVec Ideal S1x1024x128 .f32) (x : Fin 1024 → Fin 100 → EReal)
    (hX : ∀ r k, X (ix3 0 r k) = wide (x r) 1 k) (r : Fin 1024) (j : Fin 512) :
    k2_pay6 (F := Ideal) h X W (ix2 r j) = gsc j * P.z s.1 x r j := by
  rw [Par.z, ← gate_eq _ _ _ (fun k => h (ix2 r k)) _ _ _ _ (gsc_nonneg j) (gsc_ne_top j) (fun k => hs.1 r k)]
  pointwise [k2_pay6]
  exact congrArg₂ (· + ·) (Finset.sum_congr rfl fun k _ => congrArg₂ (· * ·) (hX r k) (hW.1 k j))
    (Finset.sum_congr rfl fun k _ => congrArg₂ (· * ·) rfl (hW.2 k j))

/-- The scale of a gate of the first quarter, the second, the third and the fourth. -/
theorem gsc_0 (u : Fin 128) : gsc ⟨u.val, by omega⟩ = hf := if_neg (by simp; omega)
theorem gsc_1 (u : Fin 128) : gsc ⟨128 + u.val, by omega⟩ = hf := if_neg (by simp; omega)
theorem gsc_2 (u : Fin 128) : gsc ⟨256 + u.val, by omega⟩ = 1 := if_pos (by simp; omega)
theorem gsc_3 (u : Fin 128) : gsc ⟨384 + u.val, by omega⟩ = hf := if_neg (by simp)

section
variable (P : Par) (W : FVec Ideal S256x512 .bf16) (hW : IsW P W)
include hW

/-- One step of the kernel keeps the relation of the states. -/
theorem cell_at (s : Hc) (t : St Ideal) (hs : IsSt s t.1 t.2) (X : FVec Ideal S1x1024x128 .f32) (x : Fin 1024 → Fin 100 → EReal)
    (hX : ∀ r k, X (ix3 0 r k) = wide (x r) 1 k) : IsSt (P.step s x) (cell W t X).1 (cell W t X).2 := by
  have hz := pay6_at P W hW s t.1 t.2 hs X x hX
  have hc : ∀ r u, (P.step s x).2 r u = k2_pay7 (F := Ideal) t.1 t.2 X W (ix2 r u) := fun r u => by
    pointwise [k2_pay7]
    show cOf _ _ _ _ = _
    rw [← c_eq, hz, hz, hz, gsc_0, gsc_1, gsc_2, hs.2 r u]
  refine ⟨fun r u => ?_, hc⟩
  show hOf _ _ = _ * k2_pay8 (F := Ideal) t.1 t.2 X W (ix2 r u)
  rw [h_eq]
  pointwise [k2_pay8]
  rw [hz, gsc_3, ← hc r u]
  rfl

end

/-- The kernel's zero states are the mathematics'. -/
theorem st0_at : IsSt (fun _ _ => 0, fun _ _ => 0) (st0 (F := Ideal)).1 (st0 (F := Ideal)).2 := by
  constructor
  · intro r u
    show (0 : EReal) = hf * k2_pay2 (F := Ideal) (ix2 r u)
    pointwise [k2_pay2]
    exact (mul_zero _).symm
  · intro r u
    show (0 : EReal) = k2_pay3 (F := Ideal) (ix2 r u)
    pointwise [k2_pay3]

section
variable (P : Par) (W : FVec Ideal S256x512 .bf16) (hW : IsW P W) (X : FVec Ideal S200x1024x128 .f32)
  (xs : Fin 200 → Fin 1024 → Fin 100 → EReal) (hX : ∀ t r k, X (ix3 t r k) = wide (xs t r) 1 k)

include hX in
/-- The row read at a step is the input there, widened. -/
theorem xAt_at (n : ℕ) (r : Fin 1024) (k : Fin 128) : xAt (F := Ideal) X n (ix3 0 r k) = wide (ahead xs n r) 1 k :=
  (congrArg X (show _ = ix3 (⟨n % 200, Nat.mod_lt _ (by decide)⟩ : Fin 200) r k from funext fun a => by fin_cases a <;> rfl)).trans (hX _ _ _)

include hW hX

/-- The forward states after any number of steps. -/
theorem fSt_at : ∀ n, IsSt (P.st (ahead xs) n) (fSt (F := Ideal) W X n).1 (fSt (F := Ideal) W X n).2
  | 0 => st0_at
  | n + 1 => cell_at P W hW _ _ (fSt_at n) _ _ (xAt_at X xs hX n)

/-- The backward states after any number of steps. -/
theorem bSt_at : ∀ n, IsSt (P.st (back xs) n) (bSt (F := Ideal) W X n).1 (bSt (F := Ideal) W X n).2
  | 0 => st0_at
  | n + 1 => cell_at P W hW _ _ (bSt_at n) _ _ (xAt_at X xs hX (199 - n))

/-- The forward half of the output: the product of the hidden state with its weights, and the bias. -/
theorem outsF_at (wo : FVec Ideal S128x20 .bf16) (V : Fin 20 → Fin 128 → EReal) (hV : ∀ k o, wo (ix2 k o) = hf * V o k)
    (bo : FVec Ideal S1x20 .f32) (t : Fin 200) (r : Fin 1024) (o : Fin 20) :
    outsF (F := Ideal) W X wo bo (ix3 t r o) = (∑ k, (P.st (ahead xs) (t.val + 1)).1 r k * V o k) + bo (ix2 0 o) := by
  have e : outsF (F := Ideal) W X wo bo (ix3 t r o) = k2_pay9 (F := Ideal) (fSt (F := Ideal) W X (t.val + 1)).1 wo bo (ix3 0 r o) :=
    congrArg (k2_pay9 (F := Ideal) (fSt (F := Ideal) W X (t.val + 1)).1 wo bo) (funext fun a => by fin_cases a <;> rfl)
  rw [e]
  have hs := (fSt_at P W hW X xs hX (t.val + 1)).1
  generalize (fSt (F := Ideal) W X (t.val + 1)).1 = h at hs ⊢
  pointwise [k2_pay9]
  refine congrArg₂ (· + ·) (Finset.sum_congr rfl fun k _ => ?_) rfl
  rw [hV k o, hs r k]
  ac_rfl

/-- The backward half of the output: the product of the hidden state with its weights. -/
theorem outsB_at (wo : FVec Ideal S128x20 .bf16) (V : Fin 20 → Fin 128 → EReal) (hV : ∀ k o, wo (ix2 k o) = hf * V o k)
    (t : Fin 200) (r : Fin 1024) (o : Fin 20) :
    outsB (F := Ideal) W X wo (ix3 t r o) = ∑ k, (P.st (back xs) (200 - t.val)).1 r k * V o k := by
  have e : outsB (F := Ideal) W X wo (ix3 t r o) = k2_pay14 (F := Ideal) (bSt (F := Ideal) W X (200 - t.val)).1 (k2_pay13 wo) (ix3 0 r o) :=
    congrArg (k2_pay14 (F := Ideal) (bSt (F := Ideal) W X (200 - t.val)).1 (k2_pay13 wo)) (funext fun a => by fin_cases a <;> rfl)
  rw [e]
  have hs := (bSt_at P W hW X xs hX (200 - t.val)).1
  generalize (bSt (F := Ideal) W X (200 - t.val)).1 = h at hs ⊢
  pointwise [k2_pay14, k2_pay13]
  refine Finset.sum_congr rfl fun k _ => ?_
  rw [hV k o, hs r k]
  ac_rfl

end

end Cert.KernelIdeal.Work
-- ==== Proof.ScatI.lean ====
/-
  The one row of the weight matrix that the host sets.
-/
module

public import proofs.«01_k».proof.Proof.CellI
public import Idealize.ShloMosaic.Lib.Routing.OpsSet

@[expose] public section

set_option maxRecDepth 16384

noncomputable section

namespace Cert.KernelIdeal.Work

open Cert.KernelIdeal Cert.KernelIdeal.Gen
open Idealize.ShloMosaic

/-- Update `u` of the scatter lands in row 100 at column `u`. -/
theorem lands (idx : IVec S1 32) (hi : ∀ i, idx i = 100#32) (u : S512.Idx) (r : Fin 128) (c : Fin 512) :
    scatter_S128x512_S1_S512_0_0_0_0.resultIdx? u idx = some (ix2 r c) ↔ r.val = 100 ∧ (u 0).val = c.val := by
  have s0 : scatter_S128x512_S1_S512_0_0_0_0.start u idx 0 = 100 := by
    unfold ScatterDims.start
    rw [dif_pos (show (0 : Fin 2) ∈ scatter_S128x512_S1_S512_0_0_0_0.scatterDimsToOperandDims from List.mem_singleton.mpr rfl), hi]
    rfl
  have s1 : scatter_S128x512_S1_S512_0_0_0_0.start u idx 1 = 0 := by
    unfold ScatterDims.start
    rw [dif_neg (show ¬ (1 : Fin 2) ∈ scatter_S128x512_S1_S512_0_0_0_0.scatterDimsToOperandDims from by decide)]
  have w0 : scatter_S128x512_S1_S512_0_0_0_0.window u 0 = 0 := by
    unfold ScatterDims.window
    rw [dif_neg (by decide)]
  have w1 : scatter_S128x512_S1_S512_0_0_0_0.window u 1 = (u 0).val := by
    unfold ScatterDims.window
    rw [dif_pos (by decide)]
    rfl
  rw [Routing.resultIdx?_eq_some]
  constructor
  · intro h
    have h0 := h 0
    have h1 := h 1
    rw [s0, w0] at h0
    rw [s1, w1] at h1
    exact by
      refine ⟨Int.ofNat.inj ?_, Int.ofNat.inj ?_⟩
      · show ((r.val : ℕ) : Int) = _
        exact h0.symm.trans rfl
      · show (((u 0).val : ℕ) : Int) = (c.val : ℕ)
        exact (zero_add _).symm.trans h1
  · rintro ⟨h0, h1⟩ a
    match a with
    | ⟨0, _⟩ => show _ = ((r.val : ℕ) : Int); rw [h0]; exact congrArg₂ (· + ·) s0 (congrArg Int.ofNat w0)
    | ⟨1, _⟩ => show _ = ((c.val : ℕ) : Int); rw [← h1]; exact (congrArg₂ (· + ·) s1 (congrArg Int.ofNat w1)).trans (by simp)

/-- The matrix with row 100 set. -/
theorem scat_at {α : Type} (x : S128x512.Idx → α) (idx : IVec S1 32) (hi : ∀ i, idx i = 100#32) (v : S512.Idx → α) (r : Fin 128) (c : Fin 512) :
    Host.scatter scatter_S128x512_S1_S512_0_0_0_0 (fun _ b => b) x idx v (ix2 r c) = if r.val = 100 then v (ix1 c) else x (ix2 r c) := by
  split
  · next h =>
    refine Routing.scatter_set_hit _ _ _ _ _ _ (fun k hk => ?_) (ix1 c) ((lands idx hi _ r c).mpr ⟨h, rfl⟩)
    refine congrArg v (funext fun a => ?_)
    obtain rfl : a = 0 := Subsingleton.elim _ _
    exact Fin.ext ((lands idx hi _ r c).mp hk).2
  · next h =>
    exact Routing.scatter_set_miss _ _ _ _ _ fun k hk => h ((lands idx hi _ r c).mp hk).1

/-- The gate matrix of one direction, as the host makes it of that direction's weights and biases. -/
def wMat (wi : FVec Ideal S512x100 .f32) (wh : FVec Ideal S512x128 .f32) (bi bh : FVec Ideal S512 .f32) : FVec Ideal S256x512 .bf16 :=
  truncf .bf16 (mulf (concatenate S256x512 0
    [⟨S128x512, Host.scatter scatter_S128x512_S1_S512_0_0_0_0 (fun _ b => b)
      (pad S128x512 ![0, 0] ![28, 0] ![0, 0] (transpose S100x512 [1, 0] wi transposes_S512x100_S100x512_1_0) (sitofp .f32 (constantI S_ 32 0#32)) pads_S100x512_S128x512_0280_000 h_S_)
      (broadcastInDim S1 ![] bcast_S_S1 (constantI S_ 32 100#32)) (addf bi bh)⟩,
     ⟨S128x512, mulf (broadcastInDim S128x512 ![] bcast_S_S128x512 (constant S_ .f32 0x3F000000#32)) (transpose S128x512 [1, 0] wh transposes_S512x128_S128x512_1_0)⟩]
    concatenates_S128x512_S128x512_S256x512_d0)
   (broadcastInDim S256x512 ![0, 1] bcast_S1x512_S256x512_0_1 (concatenate S1x512 1
    [⟨S1x128, broadcastInDim S1x128 ![] bcast_S_S1x128 (constant S_ .f32 0x3F000000#32)⟩, ⟨S1x128, broadcastInDim S1x128 ![] bcast_S_S1x128 (constant S_ .f32 0x3F000000#32)⟩,
     ⟨S1x128, broadcastInDim S1x128 ![] bcast_S_S1x128 (constant S_ .f32 0x3F800000#32)⟩, ⟨S1x128, broadcastInDim S1x128 ![] bcast_S_S1x128 (constant S_ .f32 0x3F000000#32)⟩]
    concatenates_S1x128_S1x128_S1x128_S1x128_S1x512_d1))) bitsLt_bf16_f32

/-- The scale the four quarters' pieces make. -/
theorem scale_at (j : Fin 512) : (if j.val < 128 then Cert.Lstm.hf else if j.val - 128 < 128 then Cert.Lstm.hf
    else if j.val - 128 - 128 < 128 then 1 else Cert.Lstm.hf) = Cert.Lstm.gsc j := by
  unfold Cert.Lstm.gsc
  split_ifs <;> first | rfl | omega

/-- It is the matrix the step lemmas speak of. -/
theorem wMat_at (wi : FVec Ideal S512x100 .f32) (wh : FVec Ideal S512x128 .f32) (bi bh : FVec Ideal S512 .f32) :
    IsW (Cert.Lstm.par wi wh bi bh) (wMat wi wh bi bh) := by
  constructor
  · intro k j
    pointwise [wMat]
    refine congrArg₂ (· * ·) ?_ (scale_at j)
    rw [scat_at _ (broadcastInDim S1 ![] bcast_S_S1 (constantI S_ 32 100#32)) (fun _ => rfl)]
    unfold Cert.Lstm.wide
    by_cases h1 : k.val < 100
    · rw [dif_pos h1, if_neg (by omega)]
      pointwise
      exact dif_pos h1
    · rw [dif_neg h1]
      refine congrArg₂ (fun a b => if k.val = 100 then a else b) rfl ?_
      pointwise
      rw [dif_neg h1]
      show (((0#32 : BitVec 32).toInt : ℝ) : EReal) = 0
      simp
  · intro k j
    pointwise [wMat]
    exact congrArg₂ (· * ·) rfl (scale_at j)

end Cert.KernelIdeal.Work
-- ==== Proof.HostI.lean ====
/-
  What the kernel's host operations leave, read at the extended reals: the second region's operands and the result.
-/
module

public import proofs.«01_k».proof.Proof.ScatI
public import proofs.«01_k».proof.Proof.FrameI

@[expose] public section

set_option maxRecDepth 16384

noncomputable section

namespace Cert.KernelIdeal.Work

open Cert.KernelIdeal Cert.KernelIdeal.Gen
open Idealize.ShloMosaic Idealize.SL.Sem

section
variable (V : Valuation τ sig (Elt Ideal))

/-- The forward direction's gate matrix. -/
theorem v24_eq : StableHlo.after opsB V (Proc.devRef .tc main_v24) = wMat (V (dv main_arg2)) (V (dv main_arg3)) (V (dv main_arg4)) (V (dv main_arg5)) := by
  after_reads_simp
  rfl

/-- The backward direction's. -/
theorem v36_eq : StableHlo.after opsB V (Proc.devRef .tc main_v36) = wMat (V (dv main_arg6)) (V (dv main_arg7)) (V (dv main_arg8)) (V (dv main_arg9)) := by
  after_reads_simp
  rfl

/-- The output weights of the forward half of the state, halved. -/
theorem v41_at (k : Fin 128) (o : Fin 20) : (show EReal from StableHlo.after opsB V (Proc.devRef .tc main_v41) (ix2 k o))
    = Cert.Lstm.hf * (show FVec Ideal S20x256 .f32 from V (dv main_arg10)) (ix2 o ⟨k.val, by omega⟩) := by
  after_reads_simp
  pointwise

/-- The output weights of the backward half. -/
theorem v46_at (k : Fin 128) (o : Fin 20) : (show EReal from StableHlo.after opsB V (Proc.devRef .tc main_v46) (ix2 k o))
    = Cert.Lstm.hf * (show FVec Ideal S20x256 .f32 from V (dv main_arg10)) (ix2 o ⟨128 + k.val, by omega⟩) := by
  after_reads_simp
  pointwise

/-- The output bias. -/
theorem v47_at (o : Fin 20) : (show EReal from StableHlo.after opsB V (Proc.devRef .tc main_v47) (ix2 0 o))
    = (show FVec Ideal S20 .f32 from V (dv main_arg11)) (ix1 o) := by
  after_reads_simp
  pointwise

/-- The gathered rows, time-major. -/
theorem v4_at (t : Fin 200) (r : Fin 1024) (k : Fin 128) : (show EReal from StableHlo.after opsB V (Proc.devRef .tc main_v4) (ix3 t r k))
    = (show FVec Ideal S204800x128 .f32 from V (dv main_v3)) (ix2 ⟨t.val * 1024 + r.val, by omega⟩ k) := by
  after_reads_simp
  pointwise

/-- The result: the two halves added, batch-major. -/
theorem v50_at (r : Fin 1024) (t : Fin 200) (o : Fin 20) : (show EReal from StableHlo.after opsC V (Proc.devRef .tc main_v50) (ix3 r t o))
    = (show FVec Ideal S200x1024x20 .f32 from V (dv main_v48_0)) (ix3 t r o) + (show FVec Ideal S200x1024x20 .f32 from V (dv main_v48_1)) (ix3 t r o) := by
  after_reads_simp
  pointwise

end

open Cert.Lstm

/-- The padded table at an entry. -/
theorem padT_at (T : FVec Ideal S100000x100 .f32) (i : Fin 100000) (k : Fin 128) :
    padT (F := Ideal) T (ix2 i k) = wide (fun k => T (ix2 i k)) 1 k := by
  unfold padT wide
  by_cases h1 : k.val < 100
  · rw [dif_pos h1]
    refine (dif_pos h1).trans (congrArg T ?_)
    funext a; fin_cases a <;> rfl
  · refine (dif_neg h1).trans (Eq.trans ?_ (dif_neg h1).symm)
    refine congrArg₂ (fun a b => if k.val = 100 then a else b) ?_ ?_
    · exact Ideal.ofBits_one_f32
    · show (((0#32 : BitVec 32).toInt : ℝ) : EReal) = 0
      simp

variable (m : (ℓ : Loc nD τ sig) → Buf (Elt Ideal) ℓ) (d : Dev nD)

/-- An array of the launch memory, at its type. -/
abbrev arr0 : IVec S1024x200 32 := m (d, dv main_arg0)
abbrev arr1 : FVec Ideal S100000x100 .f32 := m (d, dv main_arg1)

/-- An argument before the second run of host operations. -/
theorem W3_arg (b : Ref sig .tc) (hA : b ∉ wA) (h0 : dv b ≠ dv main_v0) (h3 : dv b ≠ dv main_v3) :
    W3 m d (dv b) = m (d, dv b) := by
  rw [W3_of m d _ h3]
  unfold W2
  rw [StableHlo.after_unwritten wA wA_eq hA, W1_of m d b h0]
  rfl

/-- The padded table before the gather. -/
theorem W2_v0 : W2 m d (dv main_v0) = padT (F := Ideal) (arr1 m d) := by
  unfold W2
  rw [StableHlo.after_unwritten wA wA_eq (show main_v0 ∉ wA by decide)]
  exact Function.update_self (dv main_v0) _ _

/-- The rows the second region reads: the embedded words, widened. -/
theorem aX_at (t : Fin 200) (r : Fin 1024) (k : Fin 128) : (show EReal from aX (W4 m) d (ix3 t r k))
    = wide (emb (fun i k => arr1 m d (ix2 i k)) (fun r t => arr0 m d (ix2 r t)) t r) 1 k := by
  refine (v4_at (W3 m d) t r k).trans ?_
  have e3 : W3 m d (dv main_v3) = gRows (F := Ideal) (W2 m d (dv main_v0)) (W2 m d (dv main_v2)) := Function.update_self (dv main_v3) _ _
  have hr : (t.val * 1024 + r.val) % 1024 = r.val := by omega
  have hq : (t.val * 1024 + r.val) / 1024 = t.val := by omega
  have e2 : W2 m d (dv main_v2) (fun | 0 => (⟨t.val * 1024 + r.val, by omega⟩ : Fin 204800)) = arr0 m d (ix2 r t) := by
    rw [v2_at m d]
    exact congrArg (arr0 m d) (funext fun a => by fin_cases a; exacts [Fin.ext hr, Fin.ext hq])
  rw [e3, W2_v0]
  refine Eq.trans ?_ (padT_at (arr1 m d) ⟨(arr0 m d (ix2 r t)).toNat % 100000, Nat.mod_lt _ (by decide)⟩ k)
  rw [← e2]
  refine congrArg (padT (F := Ideal) (arr1 m d)) (funext fun a => ?_)
  fin_cases a
  · refine Fin.ext (congrArg (fun w : BitVec 32 => w.toNat % 100000) (congrArg (W2 m d (dv main_v2)) (funext fun a => ?_)))
    obtain rfl : a = 0 := Subsingleton.elim _ _
    rfl
  · rfl

/-- The kernel's result. -/
theorem kernel_at (r : Fin 1024) (t : Fin 200) (o : Fin 20) : (show EReal from W6 m d (dv main_v50) (ix3 r t o))
    = out (emb (fun i k => arr1 m d (ix2 i k)) (fun r t => arr0 m d (ix2 r t)))
        (par (m (d, dv main_arg2)) (m (d, dv main_arg3)) (m (d, dv main_arg4)) (m (d, dv main_arg5)))
        (par (m (d, dv main_arg6)) (m (d, dv main_arg7)) (m (d, dv main_arg8)) (m (d, dv main_arg9)))
        (fun o k => (show FVec Ideal S20x256 .f32 from m (d, dv main_arg10)) (ix2 o k))
        (fun o => (show FVec Ideal S20 .f32 from m (d, dv main_arg11)) (ix1 o)) r t o := by
  refine (v50_at (W5 m d) r t o).trans ?_
  rw [W5_F m d, W5_B m d]
  have hF : aWf (W4 m) d = wMat (m (d, dv main_arg2)) (m (d, dv main_arg3)) (m (d, dv main_arg4)) (m (d, dv main_arg5)) := by
    rw [← W3_arg m d main_arg2 (by decide) (by decide) (by decide), ← W3_arg m d main_arg3 (by decide) (by decide) (by decide),
      ← W3_arg m d main_arg4 (by decide) (by decide) (by decide), ← W3_arg m d main_arg5 (by decide) (by decide) (by decide)]
    exact v24_eq (W3 m d)
  have hB : aWb (W4 m) d = wMat (m (d, dv main_arg6)) (m (d, dv main_arg7)) (m (d, dv main_arg8)) (m (d, dv main_arg9)) := by
    rw [← W3_arg m d main_arg6 (by decide) (by decide) (by decide), ← W3_arg m d main_arg7 (by decide) (by decide) (by decide),
      ← W3_arg m d main_arg8 (by decide) (by decide) (by decide), ← W3_arg m d main_arg9 (by decide) (by decide) (by decide)]
    exact v36_eq (W3 m d)
  have hX := aX_at m d
  have hf : ∀ k o, aOf (W4 m) d (ix2 k o) = _ := v41_at (W3 m d)
  have hb : ∀ k o, aOb (W4 m) d (ix2 k o) = _ := v46_at (W3 m d)
  have ho : ∀ o, aBo (W4 m) d (ix2 0 o) = _ := v47_at (W3 m d)
  rw [W3_arg m d main_arg10 (by decide) (by decide) (by decide)] at hf hb
  rw [W3_arg m d main_arg11 (by decide) (by decide) (by decide)] at ho
  rw [hF, hB]
  refine congrArg₂ (· + ·) ?_ ?_
  · refine (outsF_at _ _ (wMat_at _ _ _ _) _ _ hX _ _ hf _ t r o).trans ?_
    exact congrArg₂ (· + ·) rfl (ho o)
  · exact outsB_at _ _ (wMat_at _ _ _ _) _ _ hX _ _ hb t r o

end Cert.KernelIdeal.Work
-- ==== Proof.StepR.lean ====
/-
  One pass of the reference's loop at the extended reals: one step of the recurrence in each direction.
-/
module

public import proofs.«01_k».proof.Proof.Sig
public import proofs.«01_k».proof.Proof.RefI

@[expose] public section

set_option maxRecDepth 16384

noncomputable section

namespace Cert.ReferenceIdeal.Work

open Cert.ReferenceIdeal Cert.ReferenceIdeal.Gen Cert.ReferenceIdeal.Value Cert.Lstm
open Idealize.ShloMosaic

/-- The start of a slice of one step, as the loop makes it of its counter. -/
abbrev at3 (ctr : IVec S_ 32) : Fin 3 → Int := fun k =>
  (((![ctr, constantI S_ 32 0#32, constantI S_ 32 0#32] : Fin 3 → IVec S_ 32)) k (Shape.Idx.first h_S_)).toInt

/-- The gates before their nonlinearities. -/
def zT (X : FVec Ideal S200x1024x100 .f32) (ctr : IVec S_ 32) (wi : FVec Ideal S512x100 .f32) (bi : FVec Ideal S512 .f32)
    (h : FVec Ideal S1024x128 .f32) (wh : FVec Ideal S512x128 .f32) (bh : FVec Ideal S512 .f32) : FVec Ideal S1024x512 .f32 :=
  addf (addf (addf (Host.dotGeneral dot_S1024x100_S100x512_S1024x512_1_0_0_1_n_n none
      (shapeCast S1024x100 (Host.dynamicSlice S1x1024x100 X (at3 ctr) sliceFits_S200x1024x100_S1x1024x100) shapeCasts_S1x1024x100_S1024x100)
      (transpose S100x512 [1, 0] wi transposes_S512x100_S100x512_1_0))
    (broadcastInDim S1024x512 ![0, 1] bcast_S1x512_S1024x512_0_1 (broadcastInDim S1x512 ![1] bcast_S512_S1x512_1 bi)))
    (Host.dotGeneral dot_S1024x128_S128x512_S1024x512_1_0_0_1_n_n none h (transpose S128x512 [1, 0] wh transposes_S512x128_S128x512_1_0)))
    (broadcastInDim S1024x512 ![0, 1] bcast_S1x512_S1024x512_0_1 (broadcastInDim S1x512 ![1] bcast_S512_S1x512_1 bh))

/-- The logistic function of a quarter of the gates, as the loop spells it. -/
def sT (g : FVec Ideal S1024x128 .f32) : FVec Ideal S1024x128 .f32 :=
  Host.divf (broadcastInDim S1024x128 ![] bcast_S_S1024x128 (constant S_ .f32 0x3F800000#32))
    (addf (broadcastInDim S1024x128 ![] bcast_S_S1024x128 (constant S_ .f32 0x3F800000#32)) (Host.exp (Host.negf g)))

/-- The new cell state. -/
def cT (z : FVec Ideal S1024x512 .f32) (c : FVec Ideal S1024x128 .f32) : FVec Ideal S1024x128 .f32 :=
  addf (mulf (sT (extractStridedSlice S1024x128 ![0, 128] z slices_S1024x512_S1024x128_0_128)) c)
    (mulf (sT (extractStridedSlice S1024x128 ![0, 0] z slices_S1024x512_S1024x128_0_0))
      (Host.tanh (extractStridedSlice S1024x128 ![0, 256] z slices_S1024x512_S1024x128_0_256)))

/-- The new hidden state. -/
def hT (z : FVec Ideal S1024x512 .f32) (c' : FVec Ideal S1024x128 .f32) : FVec Ideal S1024x128 .f32 :=
  mulf (sT (extractStridedSlice S1024x128 ![0, 384] z slices_S1024x512_S1024x128_0_384)) (Host.tanh c')

section
variable (V : Valuation τ sig (Elt Ideal))
theorem v28_eq : res_main_while0b_v28 V = zT (V (Proc.devRef .tc main_v6_0)) (V (Proc.devRef .tc main_v6_10)) (V (Proc.devRef .tc main_v6_2)) (V (Proc.devRef .tc main_v6_3)) (V (Proc.devRef .tc main_v6_11)) (V (Proc.devRef .tc main_v6_4)) (V (Proc.devRef .tc main_v6_5)) := rfl
theorem v67_eq : res_main_while0b_v67 V = zT (V (Proc.devRef .tc main_v6_1)) (V (Proc.devRef .tc main_v6_10)) (V (Proc.devRef .tc main_v6_6)) (V (Proc.devRef .tc main_v6_7)) (V (Proc.devRef .tc main_v6_13)) (V (Proc.devRef .tc main_v6_8)) (V (Proc.devRef .tc main_v6_9)) := rfl
theorem v54_eq : res_main_while0b_v54 V = cT (res_main_while0b_v28 V) (V (Proc.devRef .tc main_v6_12)) := rfl
theorem v93_eq : res_main_while0b_v93 V = cT (res_main_while0b_v67 V) (V (Proc.devRef .tc main_v6_14)) := rfl
theorem v56_eq : res_main_while0b_v56 V = hT (res_main_while0b_v28 V) (res_main_while0b_v54 V) := rfl
theorem v95_eq : res_main_while0b_v95 V = hT (res_main_while0b_v67 V) (res_main_while0b_v93 V) := rfl
end

/-- Where a slice of one step starts. -/
theorem at3_0 (n : ℕ) (hn : n < 200) : at3 (fun _ => BitVec.ofNat 32 n) 0 = n := by
  show (BitVec.ofNat 32 n).toInt = n
  rw [BitVec.toInt_eq_toNat_of_lt] <;> simp only [BitVec.toNat_ofNat, Nat.reducePow] <;> omega
theorem clamp_0 {d b : ℕ} (ht) (n : ℕ) (hn : n < 200) :
    Host.clampedStart ⟨3, ![200, 1024, d]⟩ ⟨3, ![1, 1024, b]⟩ ht (at3 (fun _ => BitVec.ofNat 32 n)) 0 = n :=
  Host.clampedStart_of_le _ _ _ n (at3_0 n hn) (by show n + 1 ≤ 200; omega)
theorem clamp_1 {d b : ℕ} (ht) (c : IVec S_ 32) : Host.clampedStart ⟨3, ![200, 1024, d]⟩ ⟨3, ![1, 1024, b]⟩ ht (at3 c) 1 = 0 :=
  Host.clampedStart_of_le _ _ _ 0 rfl (by show 0 + 1024 ≤ 1024; omega)
theorem clamp_2 {d : ℕ} (ht) (c : IVec S_ 32) : Host.clampedStart ⟨3, ![200, 1024, d]⟩ ⟨3, ![1, 1024, d]⟩ ht (at3 c) 2 = 0 :=
  Host.clampedStart_of_le _ _ _ 0 rfl (by show 0 + d ≤ d; omega)

/-- The loop's state is the mathematics'. -/
def IsSt (s : Hc) (h c : FVec Ideal S1024x128 .f32) : Prop := (∀ r u, s.1 r u = h (ix2 r u)) ∧ ∀ r u, s.2 r u = c (ix2 r u)

variable (X : FVec Ideal S200x1024x100 .f32) (wi : FVec Ideal S512x100 .f32) (bi : FVec Ideal S512 .f32)
    (h c : FVec Ideal S1024x128 .f32) (wh : FVec Ideal S512x128 .f32) (bh : FVec Ideal S512 .f32)
    (s : Hc) (hs : IsSt s h c) (n : ℕ) (hn : n < 200)

include hs in
/-- The gates at an entry. -/
theorem zT_at (r : Fin 1024) (j : Fin 512) : zT X (fun _ => BitVec.ofNat 32 n) wi bi h wh bh (ix2 r j)
    = (par wi wh bi bh).z s.1 (fun r k => X (ix3 ⟨n, hn⟩ r k)) r j := by
  pointwise [zT]
  simp only [clamp_0 _ n hn, clamp_1, clamp_2, Nat.zero_add]
  exact congrArg₂ (· + ·) (congrArg₂ (· + ·) rfl (Finset.sum_congr rfl fun k _ => congrArg₂ (· * ·) (hs.1 r k).symm rfl)) rfl

include hs in
/-- The two new states at an entry. -/
theorem step_at (z : FVec Ideal S1024x512 .f32) (hz : ∀ r j, z (ix2 r j) = (par wi wh bi bh).z s.1 (fun r k => X (ix3 ⟨n, hn⟩ r k)) r j) :
    IsSt ((par wi wh bi bh).step s (fun r k => X (ix3 ⟨n, hn⟩ r k))) (hT z (cT z c)) (cT z c) := by
  have hc : ∀ r u, ((par wi wh bi bh).step s (fun r k => X (ix3 ⟨n, hn⟩ r k))).2 r u = cT z c (ix2 r u) := fun r u => by
    pointwise [cT, sT]
    rw [hz, hz, hz]
    exact congrArg₂ (· + ·) (congrArg₂ (· * ·) rfl (hs.2 r u)) rfl
  refine ⟨fun r u => ?_, hc⟩
  pointwise [hT, sT]
  rw [hz, ← hc]
  rfl

include hn in
/-- One step's row written into an array of rows. -/
theorem put_at (Y : FVec Ideal S200x1024x128 .f32) (v : FVec Ideal S1024x128 .f32) (t : Fin 200) (r : Fin 1024) (u : Fin 128) :
    Host.dynamicUpdateSlice Y (broadcastInDim S1x1024x128 ![1, 2] bcast_S1024x128_S1x1024x128_1_2 v) (at3 (fun _ => BitVec.ofNat 32 n)) updateFits_S200x1024x128_S1x1024x128 (ix3 t r u)
    = if t.val = n then v (ix2 r u) else Y (ix3 t r u) := by
  pointwise
  simp only [clamp_0 _ n hn, clamp_1, clamp_2, Nat.sub_zero, Nat.zero_le, and_true]
  by_cases e : t.val = n
  · rw [dif_pos (by omega), if_pos e]
  · rw [dif_neg (by omega), if_neg e]

end Cert.ReferenceIdeal.Work
-- ==== Proof.EntryR.lean ====
/-
  What the reference's operations before its loop leave, read at the extended reals.
-/
module

public import proofs.«01_k».proof.Proof.StepR

@[expose] public section

set_option maxRecDepth 16384

noncomputable section

namespace Cert.ReferenceIdeal.Work

open Cert.ReferenceIdeal Cert.ReferenceIdeal.Gen Cert.ReferenceIdeal.Value Cert.Lstm
open Idealize.ShloMosaic Idealize.ShloMosaic.StableHlo

/-- The gather down the table's rows reads the row its row number, held to the table, names. -/
theorem gather_at {α : Type} (x : S100000x100.Idx → α) (idx : IVec S1024x200x1 32) (r : Fin 1024) (t : Fin 200) (k : Fin 100) :
    Host.gather gather_S100000x100_S1024x200x1_S1024x200x100_2_0_n_n_0_2_1100 x idx (ix3 r t k)
      = x (ix2 ⟨min (idx (ix3 r t 0)).toInt.toNat 99999, by omega⟩ k) := by
  unfold Host.gather
  congr 1
  funext a
  refine Fin.ext ?_
  show GatherDims.start _ (ix3 r t k) idx a + GatherDims.batchCoord _ (ix3 r t k) a + GatherDims.offCoord _ (ix3 r t k) a = _
  rw [GatherDims.batchCoord_eq_zero _ _ _ List.not_mem_nil, Nat.add_zero]
  match a with
  | ⟨0, h0⟩ =>
    rw [GatherDims.offCoord_eq_zero _ _ _ (fun h => ((GatherDims.mem_sKept _ _).mp h).1 (List.mem_singleton.mpr rfl)), Nat.add_zero]
    unfold GatherDims.start
    rw [dif_pos (show (⟨0, h0⟩ : Fin S100000x100.rank) ∈ gather_S100000x100_S1024x200x1_S1024x200x100_2_0_n_n_0_2_1100.startIndexMap from List.mem_singleton.mpr rfl)]
    have hsi : gather_S100000x100_S1024x200x1_S1024x200x100_2_0_n_n_0_2_1100.siIdx (ix3 r t k)
        ⟨List.idxOf (0 : Fin 2) gather_S100000x100_S1024x200x1_S1024x200x100_2_0_n_n_0_2_1100.startIndexMap,
          List.idxOf_lt_length_iff.2 (List.mem_singleton.mpr rfl)⟩ = ix3 r t 0 := by
      funext b; refine Fin.ext ?_
      match b with
      | ⟨0, _⟩ => rfl
      | ⟨1, _⟩ => rfl
      | ⟨2, _⟩ => rfl
    exact congrArg (fun i => min (idx i).toInt.toNat 99999) hsi
  | ⟨1, h1⟩ =>
    unfold GatherDims.start
    rw [dif_neg (show ¬ (⟨1, h1⟩ : Fin S100000x100.rank) ∈ gather_S100000x100_S1024x200x1_S1024x200x100_2_0_n_n_0_2_1100.startIndexMap from fun h => absurd (congrArg Fin.val (List.mem_singleton.mp h)) (by decide : ¬ (1 : Nat) = 0)), Nat.zero_add]
    rfl

section
variable (w : BitVec 32) (hw : w.toNat < 100000)
include hw

theorem row_int : w.toInt = w.toNat := BitVec.toInt_eq_toNat_of_lt (by omega)

theorem wrap_row : Scalar.select (IntOp.cmpi .slt w 0#32) (IntOp.addi w 100000#32) w = w := by
  have h : IntOp.cmpi .slt w 0#32 = 0#1 := by
    show BitVec.ofBool (w.slt 0#32) = 0#1
    rw [BitVec.slt_eq_decide, row_int w hw, decide_eq_false (show ¬ ((w.toNat : ℤ) < (0#32).toInt) from fun h => absurd (show (w.toNat : ℤ) < 0 from h) (by omega))]
    rfl
  rw [h]
  rfl

theorem row_ge : IntOp.cmpi .sge w 0#32 = 1#1 := by
  show BitVec.ofBool ((0#32).sle w) = 1#1
  rw [BitVec.sle_eq_decide, row_int w hw, decide_eq_true (show (0#32).toInt ≤ (w.toNat : ℤ) from (by omega : (0 : ℤ) ≤ w.toNat))]
  rfl

theorem row_le : IntOp.cmpi .sle w 99999#32 = 1#1 := by
  show BitVec.ofBool (w.sle 99999#32) = 1#1
  rw [BitVec.sle_eq_decide, row_int w hw, decide_eq_true (show (w.toNat : ℤ) ≤ (99999#32).toInt from (by omega : (w.toNat : ℤ) ≤ 99999))]
  rfl

theorem row_nat : w.toInt.toNat = w.toNat := by rw [row_int w hw]; rfl

/-- The masked read at a row number in range is the read at that row. -/
theorem row_pick {α : Type} (f : Fin 100000 → α) (q : α)
    (hb : min (BitVec.toInt (Scalar.select (IntOp.cmpi .slt w 0#32) (IntOp.addi w 100000#32) w)).toNat 99999 < 100000) (hb' : w.toNat % 100000 < 100000) :
    Scalar.select (Finset.fold IntOp.andi (1#1) (fun _ : Fin 1 =>
        IntOp.andi (IntOp.cmpi .sge (Scalar.select (IntOp.cmpi .slt w 0#32) (IntOp.addi w 100000#32) w) 0#32)
          (IntOp.cmpi .sle (Scalar.select (IntOp.cmpi .slt w 0#32) (IntOp.addi w 100000#32) w) 99999#32)) Finset.univ)
      (f ⟨min (BitVec.toInt (Scalar.select (IntOp.cmpi .slt w 0#32) (IntOp.addi w 100000#32) w)).toNat 99999, hb⟩) q
      = f ⟨w.toNat % 100000, hb'⟩ := by
  simp only [wrap_row w hw, row_ge w hw, row_le w hw, row_nat w hw]
  rw [show Finset.fold IntOp.andi (1#1) (fun _ : Fin 1 => IntOp.andi (1#1) (1#1)) Finset.univ = 1#1 from rfl]
  show f _ = f _
  congr 2
  rw [Nat.mod_eq_of_lt hw]
  omega

end

section
variable (V : Valuation τ sig (Elt Ideal))

/-- The table's rows at row numbers in range. -/
theorem take_at (hI : ∀ i, ((show IVec S1024x200 32 from V (Proc.devRef .tc main_arg0)) i).toNat < 100000) (r : Fin 1024) (t : Fin 200) (k : Fin 100) :
    (show EReal from StableHlo.after hostOps0 V (Proc.devRef .tc main_v0) (ix3 r t k))
      = emb (fun i k => (show FVec Ideal S100000x100 .f32 from V (Proc.devRef .tc main_arg1)) (ix2 i k))
          (fun r t => (show IVec S1024x200 32 from V (Proc.devRef .tc main_arg0)) (ix2 r t)) t r k := by
  after_reads_simp
  simp only [TRef.ofBuf_toBuf, TRef.ofBuf, TRef.toBuf, cast_eq, id]
  pointwise
  rw [gather_at]
  pointwise
  exact row_pick (show BitVec 32 from V (Proc.devRef .tc main_arg0) (ix2 r t)) (hI (ix2 r t))
    (fun i => (show FVec Ideal S100000x100 .f32 from V (Proc.devRef .tc main_arg1)) (ix2 i k)) _ _ _

/-- The loop's rows forward: the looked-up rows, time first. -/
theorem ahead_at (r : Fin 1024) (t : Fin 200) (k : Fin 100) :
    (show EReal from StableHlo.after hostOps0_1 V (Proc.devRef .tc main_v6_0) (ix3 t r k)) = (show FVec Ideal S1024x200x100 .f32 from V (Proc.devRef .tc main_v0)) (ix3 r t k) := by
  after_reads_simp
  simp only [id]
  pointwise

/-- The loop's rows backward: the same, the last step first. -/
theorem back_at (r : Fin 1024) (t : Fin 200) (k : Fin 100) :
    (show EReal from StableHlo.after hostOps0_1 V (Proc.devRef .tc main_v6_1) (ix3 t r k))
      = (show FVec Ideal S1024x200x100 .f32 from V (Proc.devRef .tc main_v0)) (ix3 r ⟨199 - t.val, by omega⟩ k) := by
  after_reads_simp
  simp only [id]
  pointwise
  show V (Proc.devRef .tc main_v0) (ix3 r (Fin.rev t) k) = _
  exact congrArg (fun i => V (Proc.devRef .tc main_v0) (ix3 r i k)) (Fin.ext (show 200 - (t.val + 1) = 199 - t.val by omega))

end

variable (m : (ℓ : Loc nD τ sig) → Buf (Elt Ideal) ℓ) (c : Dev nD)

/-- The argument `b` at the launch. -/
abbrev arg (b : Ref sig .tc) := m ((c.tc : Thread nD τ).loc b)

/-- The buffers when the loop is entered: the lookup's operations, then those that set the loop up. -/
theorem entry_eq : entryContents preI m c = StableHlo.after hostOps0_1 (StableHlo.after hostOps0 (launchContents m c)) := rfl

/-- The weights and biases enter the loop as launched. -/
theorem entry_weights :
    entryContents preI m c (Proc.devRef .tc main_v6_2) = arg m c main_arg2 ∧ entryContents preI m c (Proc.devRef .tc main_v6_3) = arg m c main_arg4
    ∧ entryContents preI m c (Proc.devRef .tc main_v6_4) = arg m c main_arg3 ∧ entryContents preI m c (Proc.devRef .tc main_v6_5) = arg m c main_arg5
    ∧ entryContents preI m c (Proc.devRef .tc main_v6_6) = arg m c main_arg6 ∧ entryContents preI m c (Proc.devRef .tc main_v6_7) = arg m c main_arg8
    ∧ entryContents preI m c (Proc.devRef .tc main_v6_8) = arg m c main_arg7 ∧ entryContents preI m c (Proc.devRef .tc main_v6_9) = arg m c main_arg9 := by
  rw [entry_eq]
  refine ⟨?_, ?_, ?_, ?_, ?_, ?_, ?_, ?_⟩ <;> (after_reads_simp; rfl)

/-- Both states enter the loop as zero. -/
theorem entry_zero (r : Fin 1024) (u : Fin 128) :
    (show EReal from entryContents preI m c (Proc.devRef .tc main_v6_11) (ix2 r u)) = 0 ∧ (show EReal from entryContents preI m c (Proc.devRef .tc main_v6_12) (ix2 r u)) = 0
    ∧ (show EReal from entryContents preI m c (Proc.devRef .tc main_v6_13) (ix2 r u)) = 0 ∧ (show EReal from entryContents preI m c (Proc.devRef .tc main_v6_14) (ix2 r u)) = 0 := by
  rw [entry_eq]
  refine ⟨?_, ?_, ?_, ?_⟩ <;> (after_reads_simp; simp only [id]; pointwise)

/-- The sequence both programs compute with: step `t`'s row of the table for batch row `r`. -/
def rows : Fin 200 → Fin 1024 → Fin 100 → EReal :=
  emb (fun i k => (show FVec Ideal S100000x100 .f32 from arg m c main_arg1) (ix2 i k)) (fun r t => (show IVec S1024x200 32 from arg m c main_arg0) (ix2 r t))

variable (hI : ∀ i, ((show IVec S1024x200 32 from arg m c main_arg0) i).toNat < 100000)
include hI

theorem entry_ahead (r : Fin 1024) (t : Fin 200) (k : Fin 100) :
    (show EReal from entryContents preI m c (Proc.devRef .tc main_v6_0) (ix3 t r k)) = rows m c t r k :=
  (ahead_at _ r t k).trans (take_at (launchContents m c) hI r t k)

theorem entry_back (r : Fin 1024) (t : Fin 200) (k : Fin 100) :
    (show EReal from entryContents preI m c (Proc.devRef .tc main_v6_1) (ix3 t r k)) = rows m c ⟨199 - t.val, by omega⟩ r k :=
  (back_at _ r t k).trans (take_at (launchContents m c) hI r _ k)

end Cert.ReferenceIdeal.Work
-- ==== Proof.ValR.lean ====
/-
  The reference's result: the loop's 200 steps are the mathematics' steps in both directions, and what
  follows the loop multiplies the two rows of hidden states by the output weights.
-/
module

public import proofs.«01_k».proof.Proof.EntryR

@[expose] public section

set_option maxRecDepth 16384

noncomputable section

namespace Cert.ReferenceIdeal.Work

open Cert.ReferenceIdeal Cert.ReferenceIdeal.Gen Cert.ReferenceIdeal.Value Cert.Lstm
open Idealize.ShloMosaic Idealize.ShloMosaic.StableHlo

/-- One direction after `n` steps: its inputs, the counter, its weights, its states, and the hidden states kept so far. -/
structure Dir (P : Par) (xs : ℕ → Fin 1024 → Fin 100 → EReal) (n : ℕ) (X : FVec Ideal S200x1024x100 .f32) (ctr : IVec S_ 32)
    (wi : FVec Ideal S512x100 .f32) (bi : FVec Ideal S512 .f32) (h : FVec Ideal S1024x128 .f32) (wh : FVec Ideal S512x128 .f32)
    (bh : FVec Ideal S512 .f32) (c : FVec Ideal S1024x128 .f32) (Y : FVec Ideal S200x1024x128 .f32) : Prop where
  inputs : ∀ (t : Fin 200) r k, X (ix3 t r k) = xs t.val r k
  counter : ctr = fun _ => BitVec.ofNat 32 n
  weights : par wi wh bi bh = P
  states : IsSt (P.st xs n) h c
  kept : ∀ (t : Fin 200) r u, t.val < n → Y (ix3 t r u) = (P.st xs (t.val + 1)).1 r u

/-- One step of a direction. -/
theorem Dir.step {P xs n X ctr wi bi h wh bh c Y} (d : Dir P xs n X ctr wi bi h wh bh c Y) (hn : n < 200)
    {z : FVec Ideal S1024x512 .f32} (ez : z = zT X ctr wi bi h wh bh) {c' : FVec Ideal S1024x128 .f32} (ec : c' = cT z c)
    {h' : FVec Ideal S1024x128 .f32} (eh : h' = hT z c') :
    Dir P xs (n + 1) X (addi ctr (constantI S_ 32 1#32)) wi bi h' wh bh c'
      (Host.dynamicUpdateSlice Y (broadcastInDim S1x1024x128 ![1, 2] bcast_S1024x128_S1x1024x128_1_2 h') (at3 ctr) updateFits_S200x1024x128_S1x1024x128) := by
  obtain ⟨hX, rfl, rfl, hs, hY⟩ := d
  subst ez ec eh
  have hx : (fun r k => X (ix3 ⟨n, hn⟩ r k)) = xs n := funext fun r => funext fun k => hX ⟨n, hn⟩ r k
  have hst := step_at X wi bi h c wh bh _ hs n hn _ (zT_at X wi bi h c wh bh _ hs n hn)
  rw [hx] at hst
  refine ⟨hX, ?_, rfl, hst, fun t r u ht => ?_⟩
  · funext i
    show BitVec.ofNat 32 n + 1#32 = _
    rw [BitVec.ofNat_add]
  · rw [put_at n hn]
    by_cases e : t.val = n
    · rw [if_pos e, e]
      exact (hst.1 r u).symm
    · rw [if_neg e]
      exact hY t r u (by omega)

/-- Both directions in the loop's buffers after `n` steps. -/
def Inv (P Q : Par) (xs ys : ℕ → Fin 1024 → Fin 100 → EReal) (n : ℕ) (V : Valuation τ sig (Elt Ideal)) : Prop :=
  Dir P xs n (V (Proc.devRef .tc main_v6_0)) (V (Proc.devRef .tc main_v6_10)) (V (Proc.devRef .tc main_v6_2)) (V (Proc.devRef .tc main_v6_3))
    (V (Proc.devRef .tc main_v6_11)) (V (Proc.devRef .tc main_v6_4)) (V (Proc.devRef .tc main_v6_5)) (V (Proc.devRef .tc main_v6_12)) (V (Proc.devRef .tc main_v6_15))
  ∧ Dir Q ys n (V (Proc.devRef .tc main_v6_1)) (V (Proc.devRef .tc main_v6_10)) (V (Proc.devRef .tc main_v6_6)) (V (Proc.devRef .tc main_v6_7))
    (V (Proc.devRef .tc main_v6_13)) (V (Proc.devRef .tc main_v6_8)) (V (Proc.devRef .tc main_v6_9)) (V (Proc.devRef .tc main_v6_14)) (V (Proc.devRef .tc main_v6_16))

/-- The loop's step keeps it. -/
theorem inv_step (P Q : Par) (xs ys : ℕ → Fin 1024 → Fin 100 → EReal) (n : ℕ) (hn : n < 200) (V : Valuation τ sig (Elt Ideal))
    (h : Inv P Q xs ys n V) : Inv P Q xs ys (n + 1) (STEP V) := by
  unfold Inv
  rw [STEP_main_v6_0, STEP_main_v6_1, STEP_main_v6_2, STEP_main_v6_3, STEP_main_v6_4, STEP_main_v6_5, STEP_main_v6_6, STEP_main_v6_7,
    STEP_main_v6_8, STEP_main_v6_9, STEP_main_v6_10, STEP_main_v6_11, STEP_main_v6_12, STEP_main_v6_13, STEP_main_v6_14, STEP_main_v6_15,
    STEP_main_v6_16]
  exact ⟨h.1.step hn (v28_eq V) (v54_eq V) (v56_eq V), h.2.step hn (v67_eq V) (v93_eq V) (v95_eq V)⟩

/-- After `n` steps from a state that has it at no step. -/
theorem inv_iter (P Q : Par) (xs ys : ℕ → Fin 1024 → Fin 100 → EReal) (V : Valuation τ sig (Elt Ideal)) (h : Inv P Q xs ys 0 V) :
    ∀ n, n ≤ 200 → Inv P Q xs ys n (STEP^[n] V)
  | 0, _ => h
  | n + 1, hn => by
    rw [Function.iterate_succ_apply']
    exact inv_step P Q xs ys n (by omega) _ (inv_iter P Q xs ys V h n (by omega))

/-- What follows the loop, read at an index. -/
theorem out_at (V : Valuation τ sig (Elt Ideal)) (r : Fin 1024) (t : Fin 200) (o : Fin 20) :
    (show EReal from out_main_v15 V (ix3 r t o))
      = ((∑ k : Fin 128, (show FVec Ideal S200x1024x128 .f32 from V (Proc.devRef .tc main_v6_15)) (ix3 t r k)
            * (show FVec Ideal S20x256 .f32 from V (Proc.devRef .tc main_arg10)) (ix2 o ⟨k.val, by omega⟩))
          + ∑ k : Fin 128, (show FVec Ideal S200x1024x128 .f32 from V (Proc.devRef .tc main_v6_16)) (ix3 ⟨199 - t.val, by omega⟩ r k)
            * (show FVec Ideal S20x256 .f32 from V (Proc.devRef .tc main_arg10)) (ix2 o ⟨128 + k.val, by omega⟩))
        + (show FVec Ideal S20 .f32 from V (Proc.devRef .tc main_arg11)) (ix1 o) := by
  pointwise [out_main_v15]
  refine congrArg₂ (· + ·) (congrArg₂ (· + ·) rfl (Finset.sum_congr rfl fun k _ => congrArg₂ (· * ·) ?_ rfl)) rfl
  show V (Proc.devRef .tc main_v6_16) (ix3 (Fin.rev t) r k) = _
  exact congrArg (fun i => V (Proc.devRef .tc main_v6_16) (ix3 i r k)) (Fin.ext (show 200 - (t.val + 1) = 199 - t.val by omega))

variable (m : (ℓ : Loc nD τ sig) → Buf (Elt Ideal) ℓ) (c : Dev nD)
  (hI : ∀ i, ((show IVec S1024x200 32 from arg m c main_arg0) i).toNat < 100000)
include hI

/-- The loop's entry has both directions at no step. -/
theorem inv_entry :
    Inv (par (arg m c main_arg2) (arg m c main_arg3) (arg m c main_arg4) (arg m c main_arg5))
      (par (arg m c main_arg6) (arg m c main_arg7) (arg m c main_arg8) (arg m c main_arg9))
      (ahead (rows m c)) (back (rows m c)) 0 (entryContents preI m c) := by
  obtain ⟨h2, h3, h4, h5, h6, h7, h8, h9⟩ := entry_weights m c
  refine ⟨⟨fun t r k => ?_, ctr_entry m c, ?_, ⟨fun r u => (entry_zero m c r u).1.symm, fun r u => (entry_zero m c r u).2.1.symm⟩, fun _ _ _ h => absurd h (by omega)⟩,
    ⟨fun t r k => ?_, ctr_entry m c, ?_, ⟨fun r u => (entry_zero m c r u).2.2.1.symm, fun r u => (entry_zero m c r u).2.2.2.symm⟩, fun _ _ _ h => absurd h (by omega)⟩⟩
  · refine (entry_ahead m c hI r t k).trans ?_
    show _ = rows m c ⟨t.val % 200, _⟩ r k
    simp only [Nat.mod_eq_of_lt t.isLt]
  · rw [h2, h3, h4, h5]
  · refine (entry_back m c hI r t k).trans ?_
    show _ = rows m c ⟨(199 - t.val) % 200, _⟩ r k
    simp only [Nat.mod_eq_of_lt (show 199 - t.val < 200 by omega)]
  · rw [h6, h7, h8, h9]

/-- The reference's result at an index. -/
theorem reference_at (r : Fin 1024) (t : Fin 200) (o : Fin 20) :
    (show EReal from out_main_v15 (STEP^[200] (entryContents preI m c)) (ix3 r t o))
      = out (rows m c) (par (arg m c main_arg2) (arg m c main_arg3) (arg m c main_arg4) (arg m c main_arg5))
          (par (arg m c main_arg6) (arg m c main_arg7) (arg m c main_arg8) (arg m c main_arg9))
          (fun o k => (show FVec Ideal S20x256 .f32 from arg m c main_arg10) (ix2 o k))
          (fun o => (show FVec Ideal S20 .f32 from arg m c main_arg11) (ix1 o)) r t o := by
  have hI' := inv_iter _ _ _ _ _ (inv_entry m c hI) 200 (le_refl _)
  rw [out_at, iter_main_arg10 m c 200, iter_main_arg11 m c 200]
  unfold out
  rw [add_right_comm]
  refine congrArg₂ (· + ·) (congrArg₂ (· + ·) (Finset.sum_congr rfl fun k _ => congrArg₂ (· * ·) (hI'.1.kept t r k t.isLt) rfl) rfl)
    (Finset.sum_congr rfl fun k _ => congrArg₂ (· * ·) ((hI'.2.kept ⟨199 - t.val, by omega⟩ r k (by show 199 - t.val < 200; omega)).trans ?_) rfl)
  rw [show 199 - t.val + 1 = 200 - t.val by omega]

end Cert.ReferenceIdeal.Work
-- ==== Proof.lean ====
/-
  The claims put together: the kernel's two frames, the reference's, that the idealization is the program's own text, and
  that the kernel's result is the reference's over the extended reals.
-/
module

public import proofs.«01_k».proof.Defs
public import proofs.«01_k».proof.Proof.FrameI
public import proofs.«01_k».proof.Proof.FrameK
public import proofs.«01_k».proof.Proof.RefI
public import proofs.«01_k».proof.Proof.HostI
public import proofs.«01_k».proof.Proof.ValR

@[expose] public section

set_option maxRecDepth 16384

noncomputable section

namespace Cert.Proof

open Idealize.ShloMosaic Idealize.SL.Sem

/-- The frame of the kernel at machine floats. -/
theorem kernel_frame : Cert.quiescent_Kernel := fun m g h => Cert.Kernel.Work.frame m h g

/-- The frame of the kernel at ideal floats. -/
theorem ideal_frame : Cert.quiescent_KernelIdeal := fun m g h => Cert.KernelIdeal.Work.frame m h g

/-- The reference's frame, with nothing asked of the memory. -/
theorem reference_frame : Cert.quiescent_ReferenceIdeal := fun m g _ =>
  θ_run_and ((θ_run _ _ _).mono (fun _ h c => (h c).2) (Cert.ReferenceIdeal.Value.run m g)) (Cert.ReferenceIdeal.Work.run_zero m g)

/-- The two results are one array: index by index each is the same recurrence of the same table, row numbers and weights. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (h : Cert.KernelIdeal.Work.InRange m) (c : Dev Cert.KernelIdeal.nD)
    (e0 : Cert.ReferenceIdeal.Work.arg m' c Cert.ReferenceIdeal.main_arg0 = m ((c.tc : Thread Cert.KernelIdeal.nD Cert.KernelIdeal.τ).loc Cert.KernelIdeal.main_arg0))
    (e1 : Cert.ReferenceIdeal.Work.arg m' c Cert.ReferenceIdeal.main_arg1 = m ((c.tc : Thread Cert.KernelIdeal.nD Cert.KernelIdeal.τ).loc Cert.KernelIdeal.main_arg1))
    (e2 : Cert.ReferenceIdeal.Work.arg m' c Cert.ReferenceIdeal.main_arg2 = m ((c.tc : Thread Cert.KernelIdeal.nD Cert.KernelIdeal.τ).loc Cert.KernelIdeal.main_arg2))
    (e3 : Cert.ReferenceIdeal.Work.arg m' c Cert.ReferenceIdeal.main_arg3 = m ((c.tc : Thread Cert.KernelIdeal.nD Cert.KernelIdeal.τ).loc Cert.KernelIdeal.main_arg3))
    (e4 : Cert.ReferenceIdeal.Work.arg m' c Cert.ReferenceIdeal.main_arg4 = m ((c.tc : Thread Cert.KernelIdeal.nD Cert.KernelIdeal.τ).loc Cert.KernelIdeal.main_arg4))
    (e5 : Cert.ReferenceIdeal.Work.arg m' c Cert.ReferenceIdeal.main_arg5 = m ((c.tc : Thread Cert.KernelIdeal.nD Cert.KernelIdeal.τ).loc Cert.KernelIdeal.main_arg5))
    (e6 : Cert.ReferenceIdeal.Work.arg m' c Cert.ReferenceIdeal.main_arg6 = m ((c.tc : Thread Cert.KernelIdeal.nD Cert.KernelIdeal.τ).loc Cert.KernelIdeal.main_arg6))
    (e7 : Cert.ReferenceIdeal.Work.arg m' c Cert.ReferenceIdeal.main_arg7 = m ((c.tc : Thread Cert.KernelIdeal.nD Cert.KernelIdeal.τ).loc Cert.KernelIdeal.main_arg7))
    (e8 : Cert.ReferenceIdeal.Work.arg m' c Cert.ReferenceIdeal.main_arg8 = m ((c.tc : Thread Cert.KernelIdeal.nD Cert.KernelIdeal.τ).loc Cert.KernelIdeal.main_arg8))
    (e9 : Cert.ReferenceIdeal.Work.arg m' c Cert.ReferenceIdeal.main_arg9 = m ((c.tc : Thread Cert.KernelIdeal.nD Cert.KernelIdeal.τ).loc Cert.KernelIdeal.main_arg9))
    (e10 : Cert.ReferenceIdeal.Work.arg m' c Cert.ReferenceIdeal.main_arg10 = m ((c.tc : Thread Cert.KernelIdeal.nD Cert.KernelIdeal.τ).loc Cert.KernelIdeal.main_arg10))
    (e11 : Cert.ReferenceIdeal.Work.arg m' c Cert.ReferenceIdeal.main_arg11 = m ((c.tc : Thread Cert.KernelIdeal.nD Cert.KernelIdeal.τ).loc Cert.KernelIdeal.main_arg11)) :
    Cert.ReferenceIdeal.Value.out_main_v15 (Cert.ReferenceIdeal.Value.STEP^[200] (StableHlo.entryContents Cert.ReferenceIdeal.Value.preI m' c))
      = Cert.KernelIdeal.Work.W6 m c (Proc.devRef .tc Cert.KernelIdeal.main_v50) := by
  have hI : ∀ i, ((show IVec Cert.ReferenceIdeal.S1024x200 32 from Cert.ReferenceIdeal.Work.arg m' c Cert.ReferenceIdeal.main_arg0) i).toNat < 100000 := by
    rw [e0]
    exact Cert.KernelIdeal.Work.rows_lt (h c)
  refine funext fun (i : Cert.ReferenceIdeal.S1024x200x20.Idx) => ?_
  obtain ⟨r, t, o, rfl⟩ : ∃ (r : Fin 1024) (t : Fin 200) (o : Fin 20), i = ix3 r t o := ⟨i 0, i 1, i 2, eq_ix3 i⟩
  refine (Cert.ReferenceIdeal.Work.reference_at m' c hI r t o).trans (Eq.trans ?_ (Cert.KernelIdeal.Work.kernel_at m c r t o).symm)
  unfold Cert.ReferenceIdeal.Work.rows
  rw [e0, e1, e2, e3, e4, e5, e6, e7, e8, e9, e10, e11]

/-- The value claim. -/
theorem value : Cert.algebraic_KernelIdeal_ReferenceIdeal := fun m g m' g' h e =>
  ⟨fun c => Cert.KernelIdeal.Work.W6 m c (Proc.devRef .tc Cert.KernelIdeal.main_v50),
    (θ_run _ _ _).mono (fun _ hs c => ⟨hs.1 c (Proc.devRef .tc Cert.KernelIdeal.main_v50) (by decide), Cert.KernelIdeal.Work.args_kept m hs.1 c⟩) (Cert.KernelIdeal.Work.run_in_range m h g),
    (θ_run _ _ _).mono (fun _ hs c => by
      obtain ⟨e0, e1, e2, e3, e4, e5, e6, e7, e8, e9, e10, e11⟩ := e c
      exact ⟨(hs c).1.trans (results_eq m m' h c e0 e1 e2 e3 e4 e5 e6 e7 e8 e9 e10 e11), (hs c).2⟩) (Cert.ReferenceIdeal.Value.run m' g')⟩

theorem claim : Cert.Claim := ⟨Cert.Kernel.Gen.facts, Cert.KernelIdeal.Gen.facts, Cert.ReferenceIdeal.Gen.facts, Cert.Pre_in_range.Gen.facts,
  kernel_frame, ideal_frame, reference_frame, fun m g _ => reference_frame m g trivial, trivial, value⟩

end Cert.Proof

end
